-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S1 : Shape := ⟨1, ![1]⟩
abbrev S4096x1024 : Shape := ⟨2, ![4096, 1024]⟩
abbrev S2x4096x512 : Shape := ⟨3, ![2, 4096, 512]⟩
abbrev S7x512x1024 : Shape := ⟨3, ![7, 512, 1024]⟩
abbrev S2 : Shape := ⟨1, ![2]⟩
abbrev S7 : Shape := ⟨1, ![7]⟩
abbrev S_ : Shape := ⟨0, ![]⟩
abbrev S1x4096x512 : Shape := ⟨3, ![1, 4096, 512]⟩
abbrev S4096x512 : Shape := ⟨2, ![4096, 512]⟩
abbrev S512x512 : Shape := ⟨2, ![512, 512]⟩
abbrev S1x512x512 : Shape := ⟨3, ![1, 512, 512]⟩
abbrev S1x512x1024 : Shape := ⟨3, ![1, 512, 1024]⟩
abbrev S512x1024 : Shape := ⟨2, ![512, 1024]⟩

abbrev nBuf : Space → Nat
  | .hbm => 5
  | .vmem => 5
  | .smem => 2
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S2x4096x512, .f32⟩
  | .local _ .vmem, ⟨3, _⟩ => ⟨S7x512x1024, .bf16⟩
  | .local _ .vmem, ⟨4, _⟩ => ⟨S7x512x1024, .bf16⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_32 : BitVec 32) (c0_i32_34 : BitVec 32) : Fin 2 → Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.addi v2 c1_i32_32
  let c8_i32_33 : BitVec 32 := 8#32
  let v39 : BitVec 32 := Scalar.remsi v38 c8_i32_33
  let c1024_i32 : BitVec 32 := 1024#32
  let v40 : BitVec 32 := Scalar.muli v39 c1024_i32
  let v41 : BitVec 32 := Scalar.addi v40 c0_i32_34
  ![0, v41.toNat]
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v127 : BitVec 32 := Scalar.addi v2 c1_i32_96
  let c8_i32_97 : BitVec 32 := 8#32
  let v128 : BitVec 32 := Scalar.remsi v127 c8_i32_97
  let c1_i32_102 : BitVec 32 := 1#32
  let v129 : BitVec 32 := Scalar.muli v128 c1_i32_102
  let v130 : BitVec 32 := Scalar.addi c0_i32_103 v129
  v130.toNat
def k0_dev9 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_168 : BitVec 32 := 2#32
  let v219 : BitVec 32 := Scalar.addi v2 c2_i32_168
  let c8_i32_169 : BitVec 32 := 8#32
  let v220 : BitVec 32 := Scalar.remsi v219 c8_i32_169
  let c1_i32_174 : BitVec 32 := 1#32
  let v221 : BitVec 32 := Scalar.muli v220 c1_i32_174
  let v222 : BitVec 32 := Scalar.addi c0_i32_175 v221
  v222.toNat
def k0_dev10 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_239 : BitVec 32 := 3#32
  let v311 : BitVec 32 := Scalar.addi v2 c3_i32_239
  let c8_i32_240 : BitVec 32 := 8#32
  let v312 : BitVec 32 := Scalar.remsi v311 c8_i32_240
  let c1_i32_245 : BitVec 32 := 1#32
  let v313 : BitVec 32 := Scalar.muli v312 c1_i32_245
  let v314 : BitVec 32 := Scalar.addi c0_i32_246 v313
  v314.toNat
def k0_dev11 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_310 : BitVec 32 := 4#32
  let v403 : BitVec 32 := Scalar.addi v2 c4_i32_310
  let c8_i32_311 : BitVec 32 := 8#32
  let v404 : BitVec 32 := Scalar.remsi v403 c8_i32_311
  let c1_i32_316 : BitVec 32 := 1#32
  let v405 : BitVec 32 := Scalar.muli v404 c1_i32_316
  let v406 : BitVec 32 := Scalar.addi c0_i32_317 v405
  v406.toNat
def k0_dev12 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_381 : BitVec 32 := 5#32
  let v495 : BitVec 32 := Scalar.addi v2 c5_i32_381
  let c8_i32_382 : BitVec 32 := 8#32
  let v496 : BitVec 32 := Scalar.remsi v495 c8_i32_382
  let c1_i32_387 : BitVec 32 := 1#32
  let v497 : BitVec 32 := Scalar.muli v496 c1_i32_387
  let v498 : BitVec 32 := Scalar.addi c0_i32_388 v497
  v498.toNat
def k0_dev13 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_452 : BitVec 32 := 6#32
  let v587 : BitVec 32 := Scalar.addi v2 c6_i32_452
  let c8_i32_453 : BitVec 32 := 8#32
  let v588 : BitVec 32 := Scalar.remsi v587 c8_i32_453
  let c1_i32_458 : BitVec 32 := 1#32
  let v589 : BitVec 32 := Scalar.muli v588 c1_i32_458
  let v590 : BitVec 32 := Scalar.addi c0_i32_459 v589
  v590.toNat
def k0_dev14 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_523 : BitVec 32 := 7#32
  let v679 : BitVec 32 := Scalar.addi v2 c7_i32_523
  let c8_i32_524 : BitVec 32 := 8#32
  let v680 : BitVec 32 := Scalar.remsi v679 c8_i32_524
  let c1_i32_529 : BitVec 32 := 1#32
  let v681 : BitVec 32 := Scalar.muli v680 c1_i32_529
  let v682 : BitVec 32 := Scalar.addi c0_i32_530 v681
  v682.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_562 : BitVec 32 := 512#32
  let v727 : BitVec 32 := Scalar.muli v2 c512_i32_562
  let v728 : Index := Scalar.indexCast v727
  let c0_563 : Index := 0#32
  ![v728.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_582 : BitVec 32 := 512#32
  let v757 : BitVec 32 := Scalar.muli v2 c512_i32_582
  let v758 : Index := Scalar.indexCast v757
  let c512_583 : Index := 512#32
  ![v758.toNat, 512]
def k0_off4 (d0 : Dev nD) (c1_i32_584 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v760 : BitVec 32 := Scalar.subi v2 c1_i32_584
  let c8_i32_585 : BitVec 32 := 8#32
  let v761 : BitVec 32 := Scalar.addi v760 c8_i32_585
  let c8_i32_586 : BitVec 32 := 8#32
  let v762 : BitVec 32 := Scalar.remsi v761 c8_i32_586
  let c512_i32_600 : BitVec 32 := 512#32
  let v774 : BitVec 32 := Scalar.muli v762 c512_i32_600
  let v775 : Index := Scalar.indexCast v774
  let c0_601 : Index := 0#32
  ![v775.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Rolled.lean ====
/-
# The body, rolled up

The printed body is straight-line code: seven signals and a wait, sixteen tiles (seven peers and the own block, two
column halves each), seven receives and seven send waits. Here each of those groups is written ONCE, as a function of
the distance `d` and the half `h`, and the printed body is shown to be their sequence.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.A2A

open Cert.KernelIdeal Cert.KernelIdeal.Gen
open Idealize.ShloMosaic
open Idealize.ShloMosaic.TcCoe
open Idealize.SL Idealize.SL.Sem

variable {F : FTy → Type} [FloatOps F]

/-- The programs of the body. -/
abbrev P (F : FTy → Type) [FloatOps F] : Type 1 := Prog (TpuEff nD τ sig (Elt F) Λ₀ .tc) PUnit

/-! ## The devices and the views -/

/-- The logical id of the device `d` places after `c`, as the kernel computes it. -/
def devW (c : Dev nD) (d : Fin 8) : Nat :=
  (Scalar.addi 0#32 (Scalar.muli (Scalar.remsi (Scalar.addi (Scalar.remsi (Scalar.divsi (Dev.word c) 1#32) 8#32)
    (BitVec.ofNat 32 d.val)) 8#32) 1#32)).toNat

/-- It is `c + d` modulo 8. -/
theorem devW_eq : ∀ (c : Dev nD) (d : Fin 8), devW c d = (c.val + d.val) % 8 := by decide +kernel

/-- It names a device. -/
theorem devW_lt (c : Dev nD) (d : Fin 8) : devW c d < nD := by
  rw [devW_eq]; exact Nat.mod_lt _ (by decide)

/-- The device `d` places after `c`. -/
def peer (c : Dev nD) (d : Fin 8) : Dev nD := ⟨devW c d, devW_lt c d⟩

/-- Slot `h` of the weight buffer lies in it. -/
theorem wInb (h : Fin 2) : ∀ a, (![h.val, 0, 0] : Fin 3 → Nat) a + S1x4096x512.size a ≤ S2x4096x512.size a := by
  revert h; decide
/-- Semaphore `h` lies in the pair. -/
theorem wsInb (h : Fin 2) : ∀ a, (![h.val] : Fin 1 → Nat) a + S1.size a ≤ S2.size a := by
  revert h; decide
/-- Slot `j` of a transfer buffer lies in it. -/
theorem tInb (j : Fin 7) : ∀ a, (![j.val, 0, 0] : Fin 3 → Nat) a + S1x512x1024.size a ≤ S7x512x1024.size a := by
  revert j; decide
/-- Half `h` of slot `j` of the send buffer lies in it. -/
theorem hInb (j : Fin 7) (h : Fin 2) :
    ∀ a, (![j.val, 0, 512 * h.val] : Fin 3 → Nat) a + S1x512x512.size a ≤ S7x512x1024.size a := by
  revert j h; decide
/-- Semaphore `j` lies among the seven. -/
theorem tsInb (j : Fin 7) : ∀ a, (![j.val] : Fin 1 → Nat) a + S1.size a ≤ S7.size a := by
  revert j; decide
/-- A slot of a transfer buffer is whole words. -/
theorem tWords (j : Fin 7) :
    (Rect.unit (s := S7x512x1024) ![j.val, 0, 0] S1x512x1024.size (tInb j)).WholeWords (EltTy.packing .bf16) := by
  revert j; decide
/-- Half a slot is whole rows of packed words. -/
theorem hPacked (j : Fin 7) (h : Fin 2) :
    (Rect.unit (s := S7x512x1024) ![j.val, 0, 512 * h.val] S1x512x512.size (hInb j h)).PackedRows (EltTy.packing .bf16) := by
  revert j h; decide

/-- Slot `h` of the weight buffer, as a box. -/
abbrev wR (h : Fin 2) : Rect S2x4096x512 := Rect.unit (s := S2x4096x512) ![h.val, 0, 0] S1x4096x512.size (wInb h)
/-- Slot `j` of a transfer buffer, as a box. -/
abbrev tR (j : Fin 7) : Rect S7x512x1024 := Rect.unit (s := S7x512x1024) ![j.val, 0, 0] S1x512x1024.size (tInb j)
/-- Half `h` of slot `j`, as a box. -/
abbrev hR (j : Fin 7) (h : Fin 2) : Rect S7x512x1024 :=
  Rect.unit (s := S7x512x1024) ![j.val, 0, 512 * h.val] S1x512x512.size (hInb j h)
/-- The columns of the weights device `c` multiplies by for the device `d` places on, half `h`. -/
abbrev gR (c : Dev nD) (d : Fin 8) (h : Fin 2) : Rect S4096x8192 :=
  Rect.unit (s := S4096x8192) (k0_off1 c (BitVec.ofNat 32 d.val) (BitVec.ofNat 32 (512 * h.val))) S4096x512.size (k0_off1_inb c d h)

/-- Slot `h` of the weight buffer, as the transfers name it. -/
abbrev wSlot (h : Fin 2) : Memref sig .tc .vmem S4096x512 .f32 :=
  ((Memref.whole cc0_scratch0).slice (wR h) (fun _ => rfl)).squeeze S4096x512 squeezes_S1x4096x512_S4096x512
/-- The columns of the weights, as the transfers name them. -/
abbrev wSrc (c : Dev nD) (d : Fin 8) (h : Fin 2) : Memref sig .tc .hbm S4096x512 .f32 :=
  (Memref.whole main_arg1).slice (gR c d h) (fun _ => rfl)
/-- The semaphore slot `h`'s transfers complete on. -/
abbrev wSem (h : Fin 2) : DmaSem sig :=
  (((cc0_scratch3 : DmaSems sig S2).slice (Rect.unit (s := S2) ![h.val] S1.size (wsInb h))).squeeze S_ squeezes_S1_S_).sem
/-- Slot `j` of the send buffer, as the transfers name it. -/
abbrev sSlot (j : Fin 7) : Memref sig .tc .vmem S512x1024 .bf16 :=
  ((Memref.whole cc0_scratch1).slice (tR j) (fun _ => rfl)).squeeze S512x1024 squeezes_S1x512x1024_S512x1024
/-- Slot `j` of the receive buffer, as the transfers name it. -/
abbrev rSlot (j : Fin 7) : Memref sig .tc .vmem S512x1024 .bf16 :=
  ((Memref.whole cc0_scratch2).slice (tR j) (fun _ => rfl)).squeeze S512x1024 squeezes_S1x512x1024_S512x1024
/-- The semaphore the departure of slot `j` is counted on. -/
abbrev sSem (j : Fin 7) : DmaSem sig :=
  (((cc0_scratch4 : DmaSems sig S7).slice (Rect.unit (s := S7) ![j.val] S1.size (tsInb j))).squeeze S_ squeezes_S1_S_).sem
/-- The semaphore the arrival in slot `j` is counted on. -/
abbrev rSem (j : Fin 7) : DmaSem sig :=
  (((cc0_scratch5 : DmaSems sig S7).slice (Rect.unit (s := S7) ![j.val] S1.size (tsInb j))).squeeze S_ squeezes_S1_S_).sem
/-- The barrier's semaphore. -/
abbrev barS : Sem sig := (SemArray.scalar (sig.barrier 0 rfl) : Sems sig S_).sem

/-- The transfers move whole words: a weight slot, -/
theorem wSlot_exact (h : Fin 2) : (wSlot h).view.WordExact := (View.wordExact_bits rfl).reshape _ _
/-- the columns it is filled with, -/
theorem wSrc_exact (c : Dev nD) (d : Fin 8) (h : Fin 2) : (wSrc c d h).view.WordExact := View.wordExact_bits rfl
/-- a send slot, -/
theorem sSlot_exact (j : Fin 7) : (sSlot j).view.WordExact :=
  ((Memref.isWhole_whole cc0_scratch1).wordExact_slice rfl _ (tWords j)).reshape _ _
/-- a receive slot. -/
theorem rSlot_exact (j : Fin 7) : (rSlot j).view.WordExact :=
  ((Memref.isWhole_whole cc0_scratch2).wordExact_slice rfl _ (tWords j)).reshape _ _

/-! ## The pieces -/

/-- Signal the barrier of the device `d` places on, then `k`. -/
abbrev sig1 (c : Dev nD) (d : Fin 8) (k : P F) : P F := .op (.semSignal (peer c d, .tc) barS (1#32).toInt) fun _ => k

/-- Wait for seven signals, then `k`. -/
abbrev bar7 (k : P F) : P F := .op (.semWait barS (7#32).toInt) fun _ => k

/-- Start the copy of the weights' columns for distance `d`, half `h`, into slot `h`, then `k`. -/
abbrev wGo (c : Dev nD) (d : Fin 8) (h : Fin 2) (k : P F) : P F :=
  .op (.enqueueDma (wSrc c d h) (.here (wSlot h)) (.dma (wSem h)) (wSrc_exact c d h) (wSlot_exact h) ⟨Or.inl rfl, trivial⟩) fun _ => k

/-- Wait for that copy and load the slot, then `k` at what it holds. -/
abbrev wGet (c : Dev nD) (d : Fin 8) (h : Fin 2) (k : Vec F S1x4096x512 .f32 → P F) : P F :=
  .op (.waitDma2 (wSem h) (wSrc c d h) (wSlot h) (wSrc_exact c d h) (wSlot_exact h)) fun _ =>
  .op (.load (Memref.whole cc0_scratch0) (wR h).toLoadRect (View.loadsAt_vmem h_S1x4096x512)) k

/-- Store `z` as half `h` of send slot `j` (after a load whose value is dropped), then `k`. -/
abbrev sPut (j : Fin 7) (h : Fin 2) (z : FVec F S1x512x512 .bf16) (k : P F) : P F :=
  .op (.load (Memref.whole cc0_scratch1) (hR j h).toLoadRect (View.loadsAt_vmem h_S1x512x512)) fun _ =>
  .op (.store (Memref.whole cc0_scratch1) (hR j h) z Finset.univ
    (View.stores_vmem h_S1x512x512 ((Memref.isWhole_whole cc0_scratch1).storeExact_slice rfl _ (hPacked j h)) (fun _ => rfl)) (.inl rfl)) fun _ => k

/-- Send slot `j` to the device `j + 1` places on, then `k`. -/
abbrev sGo (c : Dev nD) (j : Fin 7) (k : P F) : P F :=
  .op (.enqueueDma (sSlot j) (.remote (Dev.tc (peer c j.succ)) (rSlot j) (.dma (sSem j))) (.dma (rSem j)) (sSlot_exact j) (rSlot_exact j)
    ⟨⟨rfl, Or.inl rfl⟩, trivial⟩) fun _ => k

/-- Store `z` at a box of the result (after a load whose value is dropped), then `k`. -/
abbrev oPut (r : Rect S4096x1024) (hn : 0 < r.shape.numel) (z : FVec F r.shape .f32) (k : P F) : P F :=
  .op (.load (Memref.whole cc0_stg3_0) r.toLoadRect (View.loadsAt_vmem hn)) fun _ =>
  .op (.store (Memref.whole cc0_stg3_0) r z Finset.univ (View.stores_vmem_bits_univ hn rfl) (.inl rfl)) fun _ => k

/-- The box of the result device `c` stores half `h` of its own block in. -/
abbrev oR (c : Dev nD) : Fin 2 → Rect S4096x1024
  | 0 => Rect.unit (s := S4096x1024) (k0_off2 c) S512x512.size (k0_off2_inb c)
  | 1 => Rect.unit (s := S4096x1024) (k0_off3 c) S512x512.size (k0_off3_inb c)

/-- The box of the result the block received in slot `j` is stored in. -/
abbrev qR (c : Dev nD) (j : Fin 7) : Rect S4096x1024 :=
  Rect.unit (s := S4096x1024) (k0_off4 c (BitVec.ofNat 32 (1 + j.val))) S512x1024.size (k0_off4_inb c j)

/-- Store `z` as half `h` of the own block of the result, then `k`. -/
abbrev ownPut (c : Dev nD) : (h : Fin 2) → (z : FVec F S512x512 .f32) → (k : P F) → P F
  | 0, z, k => oPut (oR c 0) h_S512x512 z k
  | 1, z, k => oPut (oR c 1) h_S512x512 z k

/-- Receive slot `j` and store it, cast, in the result, then `k`. -/
abbrev rGet (c : Dev nD) (j : Fin 7) (k : P F) : P F :=
  .op (.waitDma2 (rSem j) (sSlot j) (rSlot j) (sSlot_exact j) (rSlot_exact j)) fun _ =>
  .op (.load (Memref.whole cc0_scratch2) (tR j).toLoadRect (View.loadsAt_vmem h_S1x512x1024)) fun v =>
  oPut (qR c j) h_S512x1024 (k0_pay32 v) k

/-- Wait until send slot `j` has left, then `k`. -/
abbrev sEnd (j : Fin 7) (k : P F) : P F :=
  .op (.waitDma2 (sSem j) (rSlot j) (sSlot j) (rSlot_exact j) (sSlot_exact j)) fun _ => k

/-! ## The body -/

/-- The distance after `d` in the kernel's order 1, …, 7, 0. -/
abbrev nxtD (j : Fin 7) : Fin 8 := j.succ + 1

/-- One peer: both halves multiplied, stored in send slot `j` and sent; the next distance's copies started. -/
abbrev peer1 (c : Dev nD) (s : F .f32) (x : FVec F S512x4096 .fp8e4m3) (j : Fin 7) (k : P F) : P F :=
  wGo c j.succ 1 <| wGet c j.succ 0 fun v => sPut j 0 (k0_pay8 s x v) <|
  wGo c (nxtD j) 0 <| wGet c j.succ 1 fun v => sPut j 1 (k0_pay8 s x v) <| sGo c j k

/-- The own block: both halves multiplied and stored in the result. -/
abbrev own1 (c : Dev nD) (s : F .f32) (x : FVec F S512x4096 .fp8e4m3) (k : P F) : P F :=
  wGo c 0 1 <| wGet c 0 0 fun v => ownPut c 0 (k0_pay30 s x v) <| wGet c 0 1 fun v => ownPut c 1 (k0_pay30 s x v) k

/-- Everything after the barrier, from the scale and the cast rows on. -/
abbrev rest1 (c : Dev nD) (s : F .f32) (x : FVec F S512x4096 .fp8e4m3) : P F :=
  wGo c 1 0 <| peer1 c s x 0 <| peer1 c s x 1 <| peer1 c s x 2 <| peer1 c s x 3 <| peer1 c s x 4 <| peer1 c s x 5 <|
  peer1 c s x 6 <| own1 c s x <| rGet c 0 <| rGet c 1 <| rGet c 2 <| rGet c 3 <| rGet c 4 <| rGet c 5 <| rGet c 6 <|
  sEnd 0 <| sEnd 1 <| sEnd 2 <| sEnd 3 <| sEnd 4 <| sEnd 5 <| sEnd 6 <| .ret ⟨⟩

/-- The whole body. -/
abbrev body1 : P F :=
  .op .deviceId fun c =>
  sig1 c 1 <| sig1 c 2 <| sig1 c 3 <| sig1 c 4 <| sig1 c 5 <| sig1 c 6 <| sig1 c 7 <| bar7 <|
  smemLoadElt (Memref.whole cc0_stg1_0) (Rect.unit (s := S1) ![0] S1.size inb_S1_S1_0)
    (View.loads_smem_one rfl numel1_S1) (Shape.Idx.first (numel1_S1.symm ▸ Nat.one_pos)) fun a =>
  smemLoadElt (Memref.whole cc0_stg2_0) (Rect.unit (s := S1) ![0] S1.size inb_S1_S1_0)
    (View.loads_smem_one rfl numel1_S1) (Shape.Idx.first (numel1_S1.symm ▸ Nat.one_pos)) fun b =>
  .op (.load (Memref.whole cc0_stg0_0) (Rect.unit (s := S512x4096) ![0, 0] S512x4096.size inb_S512x4096_S512x4096_0_0).toLoadRect
    (View.loadsAt_vmem h_S512x4096)) fun x =>
  rest1 c (k0_pay1 a b) (k0_pay2 x)

set_option maxRecDepth 65536 in
/-- The printed body is the rolled one, by definitional unfolding. -/
theorem body_eq (t : Fin cfg0.N) : bodyAt0 (F := F) t = body1 (F := F) := by
  rfl

end Cert.KernelIdeal.A2A

end
-- ==== Proof.Contents.lean ====
/-
# What the buffers hold

For a launch memory `m`: the scale, the rows and the weight tiles device `c` computes from; the two halves of the block
it makes for the device `j + 1` places on and the halves of its own block; the contents of the send slots, of the
receive slots and of the result. All as functions of an index, so that every store and every copy can be checked
element by element.
-/
module

public import proofs.«01_k».proof.Proof.Rolled
public import Idealize.ShloMosaic.Lib.ValueIdxCore

@[expose] public section

noncomputable section

namespace Cert.KernelIdeal.A2A

open Cert.KernelIdeal Cert.KernelIdeal.Gen
open Idealize.ShloMosaic
open Idealize.ShloMosaic.TcCoe
open Idealize.ShloMosaic.ValueIdx (ix2 ix3)
open Idealize.SL Idealize.SL.Sem

variable {F : FTy → Type} [FloatOps F]

/-! ## Indices by coordinates -/

/-- Two indices of a matrix with the same coordinates are the same. -/
theorem ext2 {a b : Nat} {x y : (⟨2, ![a, b]⟩ : Shape).Idx} (h0 : (x 0).val = (y 0).val) (h1 : (x 1).val = (y 1).val) : x = y :=
  funext fun | ⟨0, _⟩ => Fin.ext h0 | ⟨1, _⟩ => Fin.ext h1
/-- The same for a stack of matrices. -/
theorem ext3 {a b c : Nat} {x y : (⟨3, ![a, b, c]⟩ : Shape).Idx} (h0 : (x 0).val = (y 0).val) (h1 : (x 1).val = (y 1).val)
    (h2 : (x 2).val = (y 2).val) : x = y :=
  funext fun | ⟨0, _⟩ => Fin.ext h0 | ⟨1, _⟩ => Fin.ext h1 | ⟨2, _⟩ => Fin.ext h2

/-- Which half of 1024 columns column `k` is in. -/
def half (k : Fin 1024) : Fin 2 := ⟨k.val / 512, by omega⟩
/-- Its place within the half. -/
def inHalf (k : Fin 1024) : Fin 512 := ⟨k.val % 512, by omega⟩

/-! ## The ring of devices -/

/-- The device that sends into slot `j` of device `c`: the one `j + 1` places before. -/
def source (c : Dev nD) (j : Fin 7) : Dev nD := peer c (Fin.rev j).succ

/-- The device `d` places after `c` has the number `c + d` modulo 8. -/
theorem peer_val (c : Dev nD) (d : Fin 8) : (peer c d).val = (c.val + d.val) % 8 := devW_eq c d
/-- The device that sends into slot `j` of `c` sends it `j + 1` places on: to `c`. -/
theorem peer_source : ∀ (c : Dev nD) (j : Fin 7), peer (source c j) j.succ = c := by
  intro c j; apply Fin.ext; rw [peer_val, source, peer_val, Fin.val_succ, Fin.val_succ, Fin.val_rev]
  have := c.isLt; have : c.val < 8 := c.isLt; omega
/-- What is sent `j + 1` places on comes from where it was sent. -/
theorem source_peer : ∀ (c : Dev nD) (j : Fin 7), source (peer c j.succ) j = c := by
  intro c j; apply Fin.ext; rw [source, peer_val, peer_val, Fin.val_succ, Fin.val_succ, Fin.val_rev]
  have : c.val < 8 := c.isLt; omega
/-- The sender into slot `j` has the number `c - 1 - j` modulo 8. -/
theorem source_val (c : Dev nD) (j : Fin 7) : (source c j).val = (c.val + 7 - j.val) % 8 := by
  rw [source, peer_val, Fin.val_succ, Fin.val_rev]; have : c.val < 8 := c.isLt; omega

/-! ## What the devices compute -/

variable (m : (ℓ : Loc nD τ sig) → Buf (Elt F) ℓ)

/-- Device `c`'s rows, staged. -/
def xAt (c : Dev nD) : (cc0_stg0_0 : Ref sig .tc).ty.Contents (Elt F) :=
  (win0_0.blk (0 : Fin 1)).view.read (Elt F) (m ((c : Thread nD τ).loc main_arg0))
/-- Its two scales, staged. -/
def saAt (c : Dev nD) : (cc0_stg1_0 : Ref sig .tc).ty.Contents (Elt F) :=
  (win0_1.blk (0 : Fin 1)).view.read (Elt F) (m ((c : Thread nD τ).loc main_arg2))
/-- The second of the two scales. -/
def sbAt (c : Dev nD) : (cc0_stg2_0 : Ref sig .tc).ty.Contents (Elt F) :=
  (win0_2.blk (0 : Fin 1)).view.read (Elt F) (m ((c : Thread nD τ).loc main_arg3))

/-- The one element of a staged scale, as a box. -/
abbrev eR : Rect S1 := Rect.unit (s := S1) ![0] S1.size inb_S1_S1_0
/-- The one index of that box. -/
abbrev e0 : (eR).shape.Idx := Shape.Idx.first (numel1_S1.symm ▸ Nat.one_pos)
/-- The product of the two scales. -/
def scal (c : Dev nD) : F .f32 :=
  k0_pay1 (((Memref.whole cc0_stg1_0).access eR).read (Elt F) (saAt m c) e0) (((Memref.whole cc0_stg2_0).access eR).read (Elt F) (sbAt m c) e0)
/-- The rows, cast. -/
def rows (c : Dev nD) : FVec F S512x4096 .fp8e4m3 := k0_pay2 (xAt m c)
/-- The weights' columns device `c` multiplies by for distance `d`, half `h`, as the slot is loaded. -/
def wTile (c : Dev nD) (d : Fin 8) (h : Fin 2) : Vec F S1x4096x512 .f32 := fun x =>
  (wSrc c d h).view.read (Elt F) (m ((c : Thread nD τ).loc main_arg1)) (ix2 (x 1) (x 2))
/-- Half `h` of the block device `c` makes for the device `j + 1` places on. -/
def sentHalf (c : Dev nD) (j : Fin 7) (h : Fin 2) : FVec F S1x512x512 .bf16 := k0_pay8 (scal m c) (rows m c) (wTile m c j.succ h)
/-- Half `h` of device `c`'s own block. -/
def ownHalf (c : Dev nD) (h : Fin 2) : FVec F S512x512 .f32 := k0_pay30 (scal m c) (rows m c) (wTile m c 0 h)

/-- Device `c`'s send buffer, all seven slots filled. -/
def sentAt (c : Dev nD) : S7x512x1024.Idx → Elt F .bf16 := fun i =>
  sentHalf m c (i 0) (half (i 2)) (ix3 0 (i 1) (inHalf (i 2)))
/-- The block received in slot `j` of device `c`, cast. -/
def gotBlock (c : Dev nD) (j : Fin 7) : FVec F S512x1024 .f32 :=
  k0_pay32 (fun x : S1x512x1024.Idx => sentAt m (source c j) (ix3 j (x 1) (x 2)))
/-- The result of device `c`: its rows in blocks of 512, the block of each device in its place. -/
def outAt (c : Dev nD) : (cc0_stg3_0 : Ref sig .tc).ty.Contents (Elt F) := fun i : S4096x1024.Idx =>
  if h : (i 0).val / 512 = c.val then ownHalf m c (half (i 1)) (ix2 ⟨(i 0).val % 512, Nat.mod_lt _ (by decide)⟩ (inHalf (i 1)))
  else gotBlock m c ⟨(c.val + 7 - (i 0).val / 512) % 8, by
      have : (i 0).val < 4096 := (i 0).isLt; have : c.val < 8 := c.isLt; omega⟩
    (ix2 ⟨(i 0).val % 512, Nat.mod_lt _ (by decide)⟩ (i 1))

end Cert.KernelIdeal.A2A

end
-- ==== Proof.Protocol.lean ====
/-
# The handshake

Device `c` first tells each of the other seven that it is ready — handing the device `d` places on the receive slot
that device will write — and waits for the seven tellings meant for it. Slot `j` of its send buffer then travels to
slot `j` of the device `j + 1` places on. One round of the library's cells (`Idealize.ShloMosaic.Rounds`) per semaphore:
the barrier's with seven duties of one unit, each departure's and each arrival's with one duty of a slot's credit.
-/
module

public import proofs.«01_k».proof.Proof.Contents
public import Idealize.ShloMosaic.Lib.Rounds
public import Idealize.ShloMosaic.Lib.Transfers

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, the handshake's, the local copies' -/

/-- Rounds with up to seven duties. -/
abbrev UB : Type := URounds (GSem nD τ sig) (Fin 7)
/-- All three parts together. -/
abbrev UU : Type := UR sig nD τ × (UB × Counters)

local notation "𝕄" => MT nD τ sig Unit (Elt F) ℕ UU ℕ

/-- The pipeline's part. -/
abbrev EP : Emb (UR sig nD τ) (MT nD τ sig Unit (Elt F) ℕ UU ℕ) := embL
/-- The handshake's part: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- It lies where a program's own resources lie. -/
instance ER_landsIn : (ER : Emb UB 𝕄).LandsIn (upEmb : UEmb _ 𝕄) := by unfold ER; infer_instance
/-- The local copies' part. -/
abbrev EC : UEmb Counters (MT nD τ sig Unit (Elt F) ℕ UU ℕ) := countersEmb (U := UU)

/-- No loop needs a variant. -/
abbrev 𝒱₀ : Variants := Variants.none

/-! ## The cells -/

/-- The barrier of device `c`. -/
abbrev barCell (c : Dev nD) : GSem nD τ sig := ((c : Thread nD τ), .reg barS)
/-- The departure of its slot `j`. -/
abbrev sendCell (c : Dev nD) (j : Fin 7) : GSem nD τ sig := ((c : Thread nD τ), .dma (sSem j))
/-- The arrival in its slot `j`. -/
abbrev recvCell (c : Dev nD) (j : Fin 7) : GSem nD τ sig := ((c : Thread nD τ), .dma (rSem j))

/-- The credit of a slot. -/
abbrev N : ℕ := (rSlot 0).view.dmaCredit
/-- A slot is not empty. -/
theorem N_pos : 0 < N := View.dmaCredit_pos _ (by decide)

/-- The numbers of the transfer semaphores: the departures from 6, -/
theorem sSem_val : ∀ j : Fin 7, (sSem j).val = 6 + j.val := by decide
/-- the arrivals from 13, -/
theorem rSem_val : ∀ j : Fin 7, (rSem j).val = 13 + j.val := by decide
/-- the weights' from 4. -/
theorem wSem_val : ∀ h : Fin 2, (wSem h).val = 4 + h.val := by decide

/-- The slot a transfer semaphore belongs to. -/
def slotOf (q : DmaSem sig) : Fin 7 := ⟨(q.val + 1) % 7, Nat.mod_lt _ (by decide)⟩
/-- A departure's slot, -/
theorem slotOf_s (j : Fin 7) : slotOf (sSem j) = j := Fin.ext (by simp only [slotOf, sSem_val]; omega)
/-- and an arrival's. -/
theorem slotOf_r (j : Fin 7) : slotOf (rSem j) = j := Fin.ext (by simp only [slotOf, rSem_val]; omega)

/-! ## The slots held -/

variable (m : (ℓ : Loc nD τ sig) → Buf (Elt F) ℓ)

/-- Slot `j` of device `c`'s send buffer, at the elements of `f` there. -/
def sPts (c : Dev nD) (j : Fin 7) (f : S7x512x1024.Idx → Elt F .bf16) : sProp 𝕄 :=
  (sSlot j).view.loc (c : Thread nD τ) ↦[(sSlot j).view.set]{fullShare} f
/-- Slot `j` of device `c`'s receive buffer. -/
def rPts (c : Dev nD) (j : Fin 7) (f : S7x512x1024.Idx → Elt F .bf16) : sProp 𝕄 :=
  (rSlot j).view.loc (c : Thread nD τ) ↦[(rSlot j).view.set]{fullShare} f

omit [FloatOps F] in
/-- A held slot may be handed over by a cell. -/
instance sPts_storable (c : Dev nD) (j : Fin 7) (f) : BI.Storable (upEmb : UEmb _ 𝕄) (sPts (F := F) c j f) := by unfold sPts; infer_instance
omit [FloatOps F] in
/-- The same of a receive slot. -/
instance rPts_storable (c : Dev nD) (j : Fin 7) (f) : BI.Storable (upEmb : UEmb _ 𝕄) (rPts (F := F) c j f) := by unfold rPts; infer_instance

/-! ## The schedule -/

/-- What device `c`'s barrier hands it of the device `j + 1` places on: the slot it will write there. -/
def barPay (c : Dev nD) (j : Fin 7) : sProp 𝕄 := iprop(∃ f, rPts (peer c j.succ) j f)

omit [FloatOps F] in
/-- The same of what the barrier hands over, -/
instance barPay_storable (c : Dev nD) (j : Fin 7) : BI.Storable (upEmb : UEmb _ 𝕄) (barPay (F := F) c j) := by unfold barPay; infer_instance

/-- What a cell's duty hands its waiter. -/
def payOf (c : Dev nD) (sm : SemLoc sig) (d : Fin 7) : sProp 𝕄 := match sm with
  | .reg _ => barPay c (Fin.rev d)
  | .dma q => if q.val < 13 then sPts c (slotOf q) (sentAt m c) else rPts c (slotOf q) (sentAt m (source c (slotOf q)))

/-- and of what any cell does. -/
instance payOf_storable (c : Dev nD) (sm : SemLoc sig) (d : Fin 7) : BI.Storable (upEmb : UEmb _ 𝕄) (payOf m c sm d) := by
  cases sm
  · unfold payOf; infer_instance
  · unfold payOf; dsimp only; split <;> infer_instance

/-- The duties of a cell's only round. -/
def dutiesOf (sm : SemLoc sig) : Finset (Fin 7) := match sm with
  | .reg _ => Finset.univ
  | .dma q => if 6 ≤ q.val then {0} else ∅

/-- One round: the barrier's duty `d` comes from the device `d + 1` places before. -/
def sched : Rounds.Schedule (GSem nD τ sig) (Fin 7) 𝕄 where
  duties g r := if r = 0 then dutiesOf g.2 else ∅
  unitless _ := False
  amount g _ _ := match g.2 with | .reg _ => 1 | .dma _ => N
  payload g _ d := payOf m g.1.1 g.2 d
  amount_pos g _ _ _ := by
    rcases g with ⟨_, s | q⟩
    · exact Nat.one_pos
    · exact N_pos

/-- The same, read off the schedule. -/
instance sched_payload_storable (g : GSem nD τ sig) (r : ℕ) (d : Fin 7) :
    BI.Storable (upEmb : UEmb _ 𝕄) ((sched (F := F) m).payload g r d) := payOf_storable m _ _ _

section Sched
variable (c : Dev nD) (j : Fin 7)

/-- A barrier has seven duties, -/
theorem duties_bar : (sched (F := F) m).duties (barCell c) 0 = Finset.univ := rfl
/-- a departure one, -/
theorem duties_send : (sched (F := F) m).duties (sendCell c j) 0 = {0} := by
  show (if 6 ≤ (sSem j).val then ({0} : Finset (Fin 7)) else ∅) = {0}
  rw [sSem_val, if_pos (by omega)]
/-- an arrival one, -/
theorem duties_recv : (sched (F := F) m).duties (recvCell c j) 0 = {0} := by
  show (if 6 ≤ (rSem j).val then ({0} : Finset (Fin 7)) else ∅) = {0}
  rw [rSem_val, if_pos (by omega)]
/-- and no cell has a second round. -/
theorem duties_later (g : GSem nD τ sig) : ∀ r, 1 ≤ r → (sched (F := F) m).duties g r = ∅ :=
  fun r hr => if_neg (by omega)

/-- A telling counts one, -/
theorem amount_bar (d : Fin 7) : (sched (F := F) m).amount (barCell c) 0 d = 1 := rfl
/-- a departure its slot's credit, -/
theorem amount_send (d : Fin 7) : (sched (F := F) m).amount (sendCell c j) 0 d = N := rfl
/-- an arrival too. -/
theorem amount_recv (d : Fin 7) : (sched (F := F) m).amount (recvCell c j) 0 d = N := rfl

/-- A cell with one duty expects what that duty pays. -/
theorem expect_of_one {g : GSem nD τ sig} (h : (sched (F := F) m).duties g 0 = {0}) : (sched (F := F) m).expect g 0 = (sched (F := F) m).amount g 0 0 := by
  show (∑ d ∈ (sched (F := F) m).duties g 0, (sched (F := F) m).amount g 0 d) = _
  simp only [h, Finset.sum_singleton]
/-- A barrier expects seven tellings, -/
theorem expect_bar : (sched (F := F) m).expect (barCell c) 0 = 7 := by
  show (∑ _d : Fin 7, 1) = 7
  decide
/-- a departure a slot, -/
theorem expect_send : (sched (F := F) m).expect (sendCell c j) 0 = N := expect_of_one m (duties_send m c j)
/-- an arrival a slot. -/
theorem expect_recv : (sched (F := F) m).expect (recvCell c j) 0 = N := expect_of_one m (duties_recv m c j)

/-- The duty `d` of the barrier hands over the slot to write at the device that pays it. -/
theorem payload_bar (d : Fin 7) : (sched (F := F) m).payload (barCell c) 0 d = barPay c (Fin.rev d) := rfl
/-- A departure hands the send slot back, as it was filled. -/
theorem payload_send (d : Fin 7) : (sched (F := F) m).payload (sendCell c j) 0 d = sPts c j (sentAt m c) := by
  show (if (sSem j).val < 13 then sPts c (slotOf (sSem j)) (sentAt m c) else _) = _
  rw [if_pos (by rw [sSem_val]; omega), slotOf_s]
/-- An arrival hands over the receive slot, filled as the sender's. -/
theorem payload_recv (d : Fin 7) : (sched (F := F) m).payload (recvCell c j) 0 d = rPts c j (sentAt m (source c j)) := by
  show (if (rSem j).val < 13 then _ else rPts c (slotOf (rSem j)) (sentAt m (source c (slotOf (rSem j))))) = _
  rw [if_neg (by rw [rSem_val]; omega), slotOf_r]

/-- All of the barrier's round: the seven slots device `c` will write. -/
theorem rest_bar : bigSep ((sched (F := F) m).duties (barCell c) 0 \ ∅) (fun d => (sched (F := F) m).payload (barCell c) 0 d)
    = bigSep Finset.univ (fun j => barPay c j) := by
  rw [Finset.sdiff_empty, duties_bar, bigSep_univ_equiv Fin.revPerm (fun j => barPay c j)]
  rfl
/-- A cell with one duty hands over what that duty does. -/
theorem rest_of_one {g : GSem nD τ sig} (h : (sched (F := F) m).duties g 0 = {0}) :
    bigSep ((sched (F := F) m).duties g 0 \ ∅) (fun d => (sched (F := F) m).payload g 0 d) = (sched (F := F) m).payload g 0 0 := by
  simp only [h, Finset.sdiff_empty]
  exact bigSep_singleton
/-- All of a departure's round: the send slot. -/
theorem rest_send : bigSep ((sched (F := F) m).duties (sendCell c j) 0 \ ∅) (fun d => (sched (F := F) m).payload (sendCell c j) 0 d)
    = sPts c j (sentAt m c) := (rest_of_one m (duties_send m c j)).trans (payload_send m c j 0)
/-- All of an arrival's: the receive slot, filled. -/
theorem rest_recv : bigSep ((sched (F := F) m).duties (recvCell c j) 0 \ ∅) (fun d => (sched (F := F) m).payload (recvCell c j) 0 d)
    = rPts c j (sentAt m (source c j)) := (rest_of_one m (duties_recv m c j)).trans (payload_recv m c j 0)

end Sched

/-! ## What each device owes; the levels -/

/-- The arrivals device `c` still owes from slot `n` on. -/
def owedR (c : Dev nD) (n : ℕ) : CellTallies nD τ sig Unit :=
  ∑ j : Fin 7 with n ≤ j.val, tallyAt (recvCell (peer c j.succ) j) () N
/-- The tellings it still owes from the `n`-th on. -/
def owedB (c : Dev nD) (n : ℕ) : CellTallies nD τ sig Unit :=
  ∑ d : Fin 7 with n ≤ d.val, tallyAt (barCell (peer c d.succ)) () 1
/-- All it owes at the launch. -/
def O₀ (c : Dev nD) : CellTallies nD τ sig Unit := owedR c 0 + owedB c 0

/-- The numbers from `j` on are `j` and those from `j + 1` on. -/
theorem from_succ (j : Fin 7) : (Finset.univ.filter fun i : Fin 7 => j.val ≤ i.val) = insert j (Finset.univ.filter fun i : Fin 7 => j.val + 1 ≤ i.val) := by
  revert j; decide
/-- The copy of slot `j` pays one arrival, -/
theorem owedR_succ (c : Dev nD) (j : Fin 7) : owedR c j.val = owedR c (j.val + 1) + tallyAt (recvCell (peer c j.succ) j) () N := by
  unfold owedR
  rw [from_succ, Finset.sum_insert (by simp), add_comm]
/-- a telling one duty of a barrier, -/
theorem owedB_succ (c : Dev nD) (d : Fin 7) : owedB c d.val = owedB c (d.val + 1) + tallyAt (barCell (peer c d.succ)) () 1 := by
  unfold owedB
  rw [from_succ, Finset.sum_insert (by simp), add_comm]
/-- after the last copy no arrival is owed, -/
theorem owedR_end (c : Dev nD) : owedR c 7 = 0 := by
  unfold owedR; rw [show (Finset.univ.filter fun i : Fin 7 => 7 ≤ i.val) = ∅ by decide, Finset.sum_empty]
/-- and after the last telling no telling. -/
theorem owedB_end (c : Dev nD) : owedB c 7 = 0 := by
  unfold owedB; rw [show (Finset.univ.filter fun i : Fin 7 => 7 ≤ i.val) = ∅ by decide, Finset.sum_empty]

/-- Only the summands' cells are owed. -/
theorem owed_of_sum {I : Type} {s : Finset I} {g : I → GSem nD τ sig} {k : ℕ} {g' : GSem nD τ sig} {u : Unit}
    (h : 0 < (∑ i ∈ s, (tallyAt (g i) () k : CellTallies nD τ sig Unit)) g' u) : ∃ i ∈ s, g' = g i := by
  rw [Finset.sum_apply, Finsupp.finset_sum_apply] at h
  obtain ⟨i, hi, hne⟩ := Finset.exists_ne_zero_of_sum_ne_zero (Nat.pos_iff_ne_zero.mp h)
  refine ⟨i, hi, ?_⟩
  by_contra hn
  rw [tallyAt_apply, if_neg (fun h' => hn h'.1)] at hne
  exact hne rfl

/-- Everything owed is an arrival of level 2 or a barrier of level 1. -/
theorem owed_pos {c : Dev nD} {n k : ℕ} {g : GSem nD τ sig} {u : Unit} (h : 0 < (owedR c n + owedB c k) g u) :
    (∃ j : Fin 7, g = recvCell (peer c j.succ) j) ∨ ∃ d : Fin 7, k ≤ d.val ∧ g = barCell (peer c d.succ) := by
  rw [Pi.add_apply, Finsupp.add_apply] at h
  rcases Nat.eq_zero_or_pos (owedR c n g u) with h0 | h0
  · rw [h0, Nat.zero_add] at h
    obtain ⟨d, hd, e⟩ := owed_of_sum h
    exact .inr ⟨d, (Finset.mem_filter.mp hd).2, e⟩
  · obtain ⟨j, -, e⟩ := owed_of_sum h0
    exact .inl ⟨j, e⟩

/-- The cells that have a level: those of the devices' own threads. -/
def L (g : GSem nD τ sig) : Finset Unit := if g.1.2 = .tc then {()} else ∅
/-- Barriers at 1, arrivals at 2, everything else (staging, local copies, departures) at 0. -/
def lv (g : GSem nD τ sig) (_ : Unit) : ℕ := match g.2 with
  | .reg _ => 1
  | .dma q => if 13 ≤ q.val then 2 else 0

/-- No other thread's cell has one. -/
theorem L_of_ne (g : GSem nD τ sig) (h : g.1.2 ≠ .tc) : L g = ∅ := if_neg h
/-- Every cell of a device's own thread does. -/
theorem L_tc (c : Dev nD) (sm : SemLoc sig) : L ((c : Thread nD τ), sm) = {()} := if_pos rfl
/-- An arrival is at 2, -/
theorem lv_recv (c : Dev nD) (j : Fin 7) : lv (recvCell c j) () = 2 := by
  show (if 13 ≤ (rSem j).val then 2 else 0) = 2
  rw [rSem_val, if_pos (by omega)]
/-- a barrier at 1. -/
theorem lv_bar (c : Dev nD) : lv (barCell c) () = 1 := rfl

/-- Only cells with a level are owed. -/
theorem owed_levelled {c : Dev nD} {n k : ℕ} {g : GSem nD τ sig} {u : Unit} (h : 0 < (owedR c n + owedB c k) g u) : u ∈ L g := by
  rcases owed_pos h with ⟨j, rfl⟩ | ⟨d, -, rfl⟩ <;> exact Finset.mem_singleton_self _

omit [FloatOps F] in
/-- A wait on a cell of device `c` is allowed when everything still owed is above the cell's level. -/
theorem mayWait_below (c : Dev nD) (sm : SemLoc sig) (l n k : ℕ) (hl : lv ((c : Thread nD τ), sm) () ≤ l)
    (h : ∀ (g : GSem nD τ sig) (u : Unit), 0 < (owedR c n + owedB c k) g u → l < lv g u) :
    (levAts L lv : sProp 𝕄) ⊢ MayWait (c : Thread nD τ) sm () (owedR c n + owedB c k) :=
  MayOwe.of_cut (L := L) (lev := lv) l (fun p hp => by obtain rfl := Finset.mem_singleton.mp hp; exact Finset.mem_singleton_self _)
    (fun _ _ hg => owed_levelled hg) (fun p hp => by obtain rfl := Finset.mem_singleton.mp hp; exact hl) h

omit [FloatOps F] in
/-- A wait at level 0 is allowed whatever of the protocol is still owed. -/
theorem mayWait_low (c : Dev nD) (q : DmaSem sig) (hq : q.val < 13) (n k : ℕ) :
    (levAts L lv : sProp 𝕄) ⊢ MayWait (c : Thread nD τ) (.dma q) () (owedR c n + owedB c k) :=
  mayWait_below c (.dma q) 0 n k (le_of_eq (if_neg (by omega))) fun g u hg => by
    rcases owed_pos hg with ⟨j, rfl⟩ | ⟨d, -, rfl⟩
    · exact lt_of_lt_of_eq (by decide) (lv_recv _ _).symm
    · exact Nat.one_pos

omit [FloatOps F] in
/-- The barrier wait is allowed once only arrivals are owed. -/
theorem mayWait_bar (c : Dev nD) (n : ℕ) :
    (levAts L lv : sProp 𝕄) ⊢ MayWait (c : Thread nD τ) (.reg barS) () (owedR c n + owedB c 7) :=
  mayWait_below c (.reg barS) 1 n 7 le_rfl fun g u hg => by
    rcases owed_pos hg with ⟨j, rfl⟩ | ⟨d, hd, rfl⟩
    · exact lt_of_lt_of_eq (by decide) (lv_recv _ _).symm
    · exact absurd d.isLt (by omega)

/-! ## The records every device shares -/

/-- The cells of a device: its barrier, its departures, its arrivals. -/
abbrev CK : Type := Unit ⊕ (Fin 7 ⊕ Fin 7)
/-- The semaphore of each. -/
abbrev csem : CK → SemLoc sig
  | .inl _ => .reg barS
  | .inr (.inl j) => .dma (sSem j)
  | .inr (.inr j) => .dma (rSem j)
/-- A cell of the mesh. -/
abbrev kcell (ck : Dev nD × CK) : GSem nD τ sig := ((ck.1 : Thread nD τ), csem ck.2)

/-- Every cell's invariant, under the names `K`, and that every cell is at round 0 or later. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

/-- The records may be used any number of times. -/
instance records_persistent (K : Dev nD × CK → ℕ) : BI.Persistent (records m K) := by unfold records; infer_instance

/-- The invariant of one cell, from the records, -/
theorem inv_at (K : Dev nD × CK → ℕ) (ck : Dev nD × CK) : records m K ⊢ cellInv ER (sched m) (K ck) (kcell ck) := by
  unfold records; exact sep_elim_left.trans (bigSep_elim (Finset.mem_univ ck))
/-- and that it has reached round 0. -/
theorem reached_at (K : Dev nD × CK → ℕ) (ck : Dev nD × CK) : records m K ⊢ reached ER (kcell ck) 0 := by
  unfold records; exact sep_elim_right.trans (bigSep_elim (Finset.mem_univ ck))

end Cert.KernelIdeal.A2A

end
-- ==== Proof.Slots.lean ====
/-
# The views, element by element

Which elements a slot, a half slot and a box of the result have, and what is read back from them after a copy or a
store.
-/
module

public import proofs.«01_k».proof.Proof.Protocol

@[expose] public section

noncomputable section

namespace Cert.KernelIdeal.A2A

open Cert.KernelIdeal Cert.KernelIdeal.Gen
open Idealize.ShloMosaic
open Idealize.ShloMosaic.TcCoe
open Idealize.ShloMosaic.ValueIdx (ix2 ix3)
open Idealize.SL Idealize.SL.Sem

variable {F : FTy → Type} [FloatOps F]

/-! ## Which elements -/

/-- The elements of a weight slot, -/
theorem wSlot_set (h : Fin 2) : (wSlot h).view.set = (wR h).set :=
  (View.set_reshape _ _).trans (View.set_slice_whole _ _)
/-- of a send slot, -/
theorem sSlot_set (j : Fin 7) : (sSlot j).view.set = (tR j).set :=
  (View.set_reshape _ _).trans (View.set_slice_whole _ _)
/-- of a receive slot. -/
theorem rSlot_set (j : Fin 7) : (rSlot j).view.set = (tR j).set :=
  (View.set_reshape _ _).trans (View.set_slice_whole _ _)

/-- Slot `h` of the weight buffer: first coordinate `h`. -/
theorem mem_wR (h : Fin 2) (i : S2x4096x512.Idx) : i ∈ (wR h).set ↔ (i 0).val = h.val := by
  rw [Rect.mem_set_unit, Fin.forall_fin_succ, Fin.forall_fin_succ, Fin.forall_fin_succ]
  have h1 : (i 1).val < 4096 := (i 1).isLt
  have h2 : (i 2).val < 512 := (i 2).isLt
  simp [Shape.size, S1x4096x512, S2x4096x512]
  omega
/-- Slot `j` of a transfer buffer: first coordinate `j`. -/
theorem mem_tR (j : Fin 7) (i : S7x512x1024.Idx) : i ∈ (tR j).set ↔ (i 0).val = j.val := by
  rw [Rect.mem_set_unit, Fin.forall_fin_succ, Fin.forall_fin_succ, Fin.forall_fin_succ]
  have h1 : (i 1).val < 512 := (i 1).isLt
  have h2 : (i 2).val < 1024 := (i 2).isLt
  simp [Shape.size, S1x512x1024, S7x512x1024]
  omega
/-- Half `h` of it: and third coordinate in half `h`. -/
theorem mem_hR (j : Fin 7) (h : Fin 2) (i : S7x512x1024.Idx) :
    i ∈ (hR j h).set ↔ (i 0).val = j.val ∧ 512 * h.val ≤ (i 2).val ∧ (i 2).val < 512 * h.val + 512 := by
  rw [Rect.mem_set_unit, Fin.forall_fin_succ, Fin.forall_fin_succ, Fin.forall_fin_succ]
  have h1 : (i 1).val < 512 := (i 1).isLt
  simp [Shape.size, S1x512x512, S7x512x1024]
  omega

/-- The row a device's own block starts at, and the column its half starts at. -/
theorem mem_oR (c : Dev nD) (h : Fin 2) (i : S4096x1024.Idx) :
    i ∈ (oR c h).set ↔ (i 0).val / 512 = c.val ∧ (i 1).val / 512 = h.val := by
  have h0 : (i 0).val < 4096 := (i 0).isLt
  have h1 : (i 1).val < 1024 := (i 1).isLt
  have hc : c.val < 8 := c.isLt
  match h with
  | 0 =>
    show i ∈ (Rect.unit (s := S4096x1024) (k0_off2 c) S512x512.size (k0_off2_inb c)).set ↔ _
    rw [Rect.mem_set_unit, Fin.forall_fin_succ, Fin.forall_fin_succ, k0_off2_eq]
    simp [Shape.size, S512x512, S4096x1024]
    omega
  | 1 =>
    show i ∈ (Rect.unit (s := S4096x1024) (k0_off3 c) S512x512.size (k0_off3_inb c)).set ↔ _
    rw [Rect.mem_set_unit, Fin.forall_fin_succ, Fin.forall_fin_succ, k0_off3_eq]
    simp [Shape.size, S512x512, S4096x1024]
    omega
/-- The rows of the block received in slot `j`: those of the device it comes from. -/
theorem mem_qR (c : Dev nD) (j : Fin 7) (i : S4096x1024.Idx) :
    i ∈ (qR c j).set ↔ (i 0).val / 512 = (source c j).val := by
  have h0 : (i 0).val < 4096 := (i 0).isLt
  have h1 : (i 1).val < 1024 := (i 1).isLt
  have hc : c.val < 8 := c.isLt
  rw [source_val, Rect.mem_set_unit, Fin.forall_fin_succ, Fin.forall_fin_succ, k0_off4_eq]
  simp [Shape.size, S512x1024, S4096x1024]
  omega

/-! ## What is read back -/

/-- A slot of the weight buffer, loaded after a copy into it. -/
theorem read_wSlot (h : Fin 2) (fd : (cc0_scratch0 : Ref sig .tc).ty.Contents (Elt F)) (g : S4096x512.Idx → Elt F .f32) :
    (Memref.whole cc0_scratch0).view.readAt (Elt F) (wR h).toLoadRect ((wSlot h).view.write (Elt F) fd g Finset.univ)
      = fun x : S1x4096x512.Idx => g (ix2 (x 1) (x 2)) := by
  funext x
  have e : (wSlot h).view.emb (ix2 (x 1) (x 2)) = ((Memref.whole cc0_scratch0).view.slice (wR h)).emb x := by
    show (wR h).emb (Shape.reshapeEquiv _ _) = (wR h).emb x
    congr 1
    rw [Shape.reshapeEquiv_cons_one]
    exact ext3 (by have h0 : (x 0).val < 1 := (x 0).isLt; show 0 = _; omega) rfl rfl
  rw [View.readAt_rect, View.read_apply, ← e, View.write_emb_of_mem _ _ (Finset.mem_univ _)]
  rfl

/-- A slot of the receive buffer, loaded. -/
theorem read_rSlot (j : Fin 7) (f : S7x512x1024.Idx → Elt F .bf16) :
    (Memref.whole cc0_scratch2).view.readAt (Elt F) (tR j).toLoadRect f = fun x : S1x512x1024.Idx => f (ix3 j (x 1) (x 2)) := by
  funext x
  show f ((tR j).emb x) = _
  congr 1
  refine ext3 ?_ ?_ ?_
  · have h0 : (x 0).val < 1 := (x 0).isLt
    show j.val + 1 * (x 0).val = j.val; omega
  · show 0 + 1 * (x 1).val = (x 1).val; omega
  · show 0 + 1 * (x 2).val = (x 2).val; omega

/-- A remote copy from a send slot to the receive slot of the same number moves each element to its own index. -/
theorem copy_slot (j : Fin 7) (fd fs : S7x512x1024.Idx → Elt F .bf16) (i : S7x512x1024.Idx) (hi : i ∈ (rSlot j).view.set) :
    (rSlot j).view.write (Elt F) fd ((sSlot j).view.read (Elt F) fs) Finset.univ i = fs i := by
  obtain ⟨x, -, rfl⟩ := Finset.mem_map.mp hi
  rw [View.write_emb_of_mem _ _ (Finset.mem_univ _)]
  rfl

/-- A store over a box, at an index of it. -/
theorem write_box {b : Ref sig .tc} (r : Rect b.ty.shape) (f : b.ty.Contents (Elt F)) (z : r.shape.Idx → Elt F b.ty.elt) (x : r.shape.Idx) :
    ((Memref.whole b).access r : View sig .tc _ _ _).write (Elt F) f z Finset.univ (r.emb x) = z x := by
  exact View.write_emb_of_mem (v := (Memref.whole b).access r) f z (Finset.mem_univ x)
/-- At an index off it. -/
theorem write_off {b : Ref sig .tc} (r : Rect b.ty.shape) (f : b.ty.Contents (Elt F)) (z : r.shape.Idx → Elt F b.ty.elt) {i : b.ty.shape.Idx}
    (hi : i ∉ r.set) : ((Memref.whole b).access r : View sig .tc _ _ _).write (Elt F) f z Finset.univ i = f i := by
  refine View.write_of_not_mem (v := (Memref.whole b).access r) f z Finset.univ ?_
  rwa [View.setOn_univ, View.set_slice_whole]

variable (m : (ℓ : Loc nD τ sig) → Buf (Elt F) ℓ)

/-- The store of half `h` of the block for slot `j`: the half of the filled send buffer. -/
theorem sent_put (c : Dev nD) (j : Fin 7) (h : Fin 2) (f : S7x512x1024.Idx → Elt F .bf16)
    (hf : ∀ i : S7x512x1024.Idx, (i 0).val = j.val → (i 2).val < 512 * h.val → f i = sentAt m c i) :
    ∀ i : S7x512x1024.Idx, (i 0).val = j.val → (i 2).val < 512 * (h.val + 1) →
      ((Memref.whole cc0_scratch1).access (hR j h) : View sig .tc _ _ _).write (Elt F) f (sentHalf m c j h) Finset.univ i = sentAt m c i := by
  intro i h0 h2
  by_cases hi : i ∈ (hR j h).set
  · obtain ⟨x, -, rfl⟩ := Finset.mem_map.mp ((hR j h).map_emb_univ ▸ hi)
    refine (write_box (b := cc0_scratch1) (hR j h) f (sentHalf m c j h) x).trans ?_
    have hh := (mem_hR j h _).mp hi
    have x0 : (x 0).val < 1 := (x 0).isLt
    have x2 : (x 2).val < 512 := (x 2).isLt
    have e1 : ((hR j h).emb x 1).val = (x 1).val := by show 0 + 1 * (x 1).val = _; omega
    have e2 : ((hR j h).emb x 2).val = 512 * h.val + (x 2).val := by show 512 * h.val + 1 * (x 2).val = _; omega
    have ej : (hR j h).emb x 0 = j := Fin.ext hh.1
    have eh : half ((hR j h).emb x 2) = h := Fin.ext (by show ((hR j h).emb x 2).val / 512 = h.val; omega)
    show _ = sentHalf m c ((hR j h).emb x 0) (half ((hR j h).emb x 2)) (ix3 0 ((hR j h).emb x 1) (inHalf ((hR j h).emb x 2)))
    rw [ej, eh]
    congr 1
    refine ext3 (by show (x 0).val = 0; omega) e1.symm ?_
    show (x 2).val = ((hR j h).emb x 2).val % 512
    omega
  · refine (write_off (b := cc0_scratch1) (hR j h) f (sentHalf m c j h) hi).trans (hf i h0 ?_)
    by_contra hn
    exact hi ((mem_hR j h i).mpr ⟨h0, by omega, by omega⟩)

/-- The result at an index of the own block's half `h`. -/
theorem out_own (c : Dev nD) (h : Fin 2) (y : S512x512.Idx) (i : S4096x1024.Idx) (h0 : (i 0).val = 512 * c.val + (y 0).val)
    (h1 : (i 1).val = 512 * h.val + (y 1).val) : ownHalf m c h y = outAt m c i := by
  have y0 : (y 0).val < 512 := (y 0).isLt
  have y1 : (y 1).val < 512 := (y 1).isLt
  unfold outAt
  rw [dif_pos (by omega)]
  have eh : half (i 1) = h := Fin.ext (by show (i 1).val / 512 = h.val; omega)
  rw [eh]
  congr 1
  refine ext2 ?_ ?_
  · show (y 0).val = (i 0).val % 512; omega
  · show (y 1).val = (i 1).val % 512; omega

/-- The stores of the two halves of the own block. -/
theorem own_put0 (c : Dev nD) (x : S512x512.Idx) : ownHalf m c 0 x = outAt m c ((oR c 0).emb x) := by
  refine out_own m c 0 x _ ?_ ?_
  · show (k0_off2 c) 0 + 1 * (x 0).val = _
    rw [k0_off2_eq]; show 512 * c.val + 1 * (x 0).val = _; omega
  · show (k0_off2 c) 1 + 1 * (x 1).val = 512 * 0 + (x 1).val
    rw [k0_off2_eq]; show 0 + 1 * (x 1).val = _; omega
/-- The second half. -/
theorem own_put1 (c : Dev nD) (x : S512x512.Idx) : ownHalf m c 1 x = outAt m c ((oR c 1).emb x) := by
  refine out_own m c 1 x _ ?_ ?_
  · show (k0_off3 c) 0 + 1 * (x 0).val = _
    rw [k0_off3_eq]; show 512 * c.val + 1 * (x 0).val = _; omega
  · show (k0_off3 c) 1 + 1 * (x 1).val = 512 * 1 + (x 1).val
    rw [k0_off3_eq]; show 512 + 1 * (x 1).val = _; omega

/-- The store of the block received in slot `j`. -/
theorem got_put (c : Dev nD) (j : Fin 7) (x : S512x1024.Idx) : gotBlock m c j x = outAt m c ((qR c j).emb x) := by
  have hi : (qR c j).emb x ∈ (qR c j).set := (qR c j).map_emb_univ ▸ Finset.mem_map_of_mem (qR c j).emb (Finset.mem_univ x)
  have hh := (mem_qR c j _).mp hi
  have hc : c.val < 8 := c.isLt
  have hs := source_val c j
  have x0 : (x 0).val < 512 := (x 0).isLt
  have e0 : ((qR c j).emb x 0).val = 512 * ((c.val + 7 - j.val) % 8) + (x 0).val := by
    show (k0_off4 c (BitVec.ofNat 32 (1 + j.val))) 0 + 1 * (x 0).val = _
    rw [k0_off4_eq]; show 512 * ((c.val + 7 - j.val) % 8) + 1 * (x 0).val = _; omega
  have e1 : ((qR c j).emb x 1).val = (x 1).val := by
    show (k0_off4 c (BitVec.ofNat 32 (1 + j.val))) 1 + 1 * (x 1).val = _
    rw [k0_off4_eq]; show 0 + 1 * (x 1).val = _; omega
  unfold outAt
  rw [dif_neg (by omega)]
  have ej : (⟨(c.val + 7 - ((qR c j).emb x 0).val / 512) % 8, by omega⟩ : Fin 7) = j := Fin.ext (by show (_ : ℕ) = j.val; dsimp only; omega)
  rw [ej]
  congr 1
  refine ext2 ?_ e1.symm
  show (x 0).val = ((qR c j).emb x 0).val % 512
  omega

end Cert.KernelIdeal.A2A

end
-- ==== Proof.Steps.lean ====
/-
# One rule per piece of the body

For each piece of the rolled body: what device `c` hands in, what it goes on with. The signals and the barrier wait, a
local copy's start and end, a store in the send buffer and in the result, a slot's departure, a slot's arrival, the end
of a departure.
-/
module

public import proofs.«01_k».proof.Proof.Slots

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- Device `c`'s run of a program, to `Q`. -/
abbrev WP (c : Dev nD) (k : P F) (Q : PUnit → sProp 𝕄) : sProp 𝕄 :=
  wp frame (wpE (defs₀ (F := F)) 𝒱₀ (c : Thread nD τ) none) Set.univ k Q

/-- Device `c` owes `O`, whatever it has waited on. -/
def owe (c : Dev nD) (O : CellTallies nD τ sig Unit) : sProp 𝕄 := iprop(∃ W, owes (c : Thread nD τ) O W)

/-- What every piece may use: the records and the levels. -/
def common : sProp 𝕄 := iprop(records m K ∗ levAts L lv)

/-- They may use it any number of times. -/
instance common_persistent : BI.Persistent (common m K) := by unfold common; infer_instance

/-! ## Seven in a row -/

/-- A piece run for the seven values of a number, each from its own resources, `I` carried along. -/
theorem seven {c : Dev nD} {Q : PUnit → sProp 𝕄} (f : Fin 7 → P F → P F) (I : ℕ → sProp 𝕄) (A B : Fin 7 → sProp 𝕄)
    (h : ∀ (j : Fin 7) (k : P F), iprop(common m K ∗ I j.val ∗ A j ∗ ((I (j.val + 1) ∗ B j) -∗ WP c k Q)) ⊢ WP c (f j k) Q) (k : P F) :
    iprop(common m K ∗ I 0 ∗ bigSep Finset.univ A ∗ ((I 7 ∗ bigSep Finset.univ B) -∗ WP c k Q))
      ⊢ WP c (f 0 <| f 1 <| f 2 <| f 3 <| f 4 <| f 5 <| f 6 k) Q := by
  have e (X : Fin 7 → sProp 𝕄) : bigSep Finset.univ X = iprop(X 0 ∗ X 1 ∗ X 2 ∗ X 3 ∗ X 4 ∗ X 5 ∗ X 6) :=
    bigSep_univ_eq_bigSepL [0, 1, 2, 3, 4, 5, 6] (by decide) (by decide) X
  have h' (j : Fin 7) (i i' : ℕ) (hi : j.val = i) (hi' : j.val + 1 = i') (k : P F) :
      iprop(common m K ∗ I i ∗ A j ∗ ((I i' ∗ B j) -∗ WP c k Q)) ⊢ WP c (f j k) Q := by subst hi hi'; exact h j k
  rw [e A, e B]
  iintro ⟨#HR, HI, ⟨A0, A1, A2, A3, A4, A5, A6⟩, Hk⟩
  iapply (h' 0 0 1 rfl rfl _); isplitr; · iexact HR
  isplitl [HI]; · iexact HI
  isplitl [A0]; · iexact A0
  iintro ⟨HI, B0⟩
  iapply (h' 1 1 2 rfl rfl _); isplitr; · iexact HR
  isplitl [HI]; · iexact HI
  isplitl [A1]; · iexact A1
  iintro ⟨HI, B1⟩
  iapply (h' 2 2 3 rfl rfl _); isplitr; · iexact HR
  isplitl [HI]; · iexact HI
  isplitl [A2]; · iexact A2
  iintro ⟨HI, B2⟩
  iapply (h' 3 3 4 rfl rfl _); isplitr; · iexact HR
  isplitl [HI]; · iexact HI
  isplitl [A3]; · iexact A3
  iintro ⟨HI, B3⟩
  iapply (h' 4 4 5 rfl rfl _); isplitr; · iexact HR
  isplitl [HI]; · iexact HI
  isplitl [A4]; · iexact A4
  iintro ⟨HI, B4⟩
  iapply (h' 5 5 6 rfl rfl _); isplitr; · iexact HR
  isplitl [HI]; · iexact HI
  isplitl [A5]; · iexact A5
  iintro ⟨HI, B5⟩
  iapply (h' 6 6 7 rfl rfl _); isplitr; · iexact HR
  isplitl [HI]; · iexact HI
  isplitl [A6]; · iexact A6
  iintro ⟨HI, B6⟩
  iapply Hk
  isplitl [HI]; · iexact HI
  isplitl [B0]; · iexact B0
  isplitl [B1]; · iexact B1
  isplitl [B2]; · iexact B2
  isplitl [B3]; · iexact B3
  isplitl [B4]; · iexact B4
  isplitl [B5]; · iexact B5
  iexact B6

/-! ## The barrier -/

/-- Telling the device `d + 1` places on that its slot here is free: the slot goes with it. -/
theorem sig_wp {c : Dev nD} {Q : PUnit → sProp 𝕄} (d : Fin 7) (k : P F) :
    iprop(common m K ∗ owe c (owedR c 0 + owedB c d.val)
        ∗ (dutyTok ER (barCell (peer c d.succ)) 0 d ∗ ∃ f, rPts (F := F) c (Fin.rev d) f)
        ∗ ((owe c (owedR c 0 + owedB c (d.val + 1)) ∗ emp) -∗ WP c k Q))
      ⊢ WP c (sig1 c d.succ k) Q := by
  unfold owe common
  iintro ⟨⟨#HR, #Hl⟩, ⟨%W, HO⟩, ⟨Ht, Hf⟩, Hk⟩
  iapply (Rounds.wp_signal 𝒱₀ ER (sched m) (c : Thread nD τ) none (dst := (peer c d.succ : Thread nD τ)) (κ := K (peer c d.succ, .inl ()))
      (d := d) (O₀ := owedR c 0 + owedB c d.val) (by rw [duties_bar]; exact Finset.mem_univ _) ((amount_bar m (peer c d.succ) d).trans (by decide)) ()
      (owedR c 0 + owedB c (d.val + 1)) (by rw [owedB_succ, ← add_assoc]; rfl)) $$ [HO Ht Hf]
  · isplitr; · iapply (inv_at m K (peer c d.succ, .inl ())); iexact HR
    isplitl [HO]; · iexact HO
    isplitl [Ht]; · iexact Ht
    isplitl [Hf]
    · rw [payload_bar]; unfold barPay
      rw [show peer (peer c d.succ) (Fin.rev d).succ = c from source_peer c d]
      iexact Hf
    iapply (reached_at m K (peer c d.succ, .inl ())); iexact HR
  iintro HO
  iapply Hk
  isplitl [HO]
  · iexists W; iexact HO
  iempintro

/-- Waiting for the seven tellings: the seven slots device `c` will write. -/
theorem bar_wp {c : Dev nD} {Q : PUnit → sProp 𝕄} (k : P F) :
    iprop(common m K ∗ owe c (owedR c 0 + owedB c 7) ∗ (cred (tallyAt (barCell c) () 7) ∗ atPos ER (barCell c) 0 ∅ 0)
        ∗ ((owe c (owedR c 0 + owedB c 7) ∗ semVal (barCell c) 0 ∗ bigSep Finset.univ fun j => barPay c j) -∗ WP c k Q))
      ⊢ WP c (bar7 k) Q := by
  unfold owe common
  iintro ⟨⟨#HR, #Hl⟩, ⟨%W, HO⟩, ⟨Hc, Hat⟩, Hk⟩
  iapply (Rounds.wp_wait_rest_token 𝒱₀ ER (sched m) (c : Thread nD τ) none (κ := K (c, .inl ()))
      (wpE_semWait_eq 𝒱₀ (c : Thread nD τ) none Set.univ) (Set.mem_univ _) () (O := owedR c 0 + owedB c 7) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait_bar c 0); iexact Hl
    iexact Hat
  iintro ⟨HO, Hat, -, Hpay⟩
  ihave Hp := (Entails.of_eq (rest_bar m c)) $$ Hpay
  imod (Rounds.cell_close ER (sched m) (Set.mem_univ (K (c, .inl ()))) (fun h => h) (R := 0 + 1) (duties_later m (barCell c))) $$ [Hat] with Hz
  · isplitr; · iapply (inv_at m K (c, .inl ())); iexact HR
    iexact Hat
  iapply Hk
  isplitl [HO]
  · iexists _; iexact HO
  isplitl [Hz] <;> iassumption

/-! ## The weights' copies -/

/-- The half of the weights' share that slot `h`'s copies read. -/
def part : Fin 2 → PosShare TreeShare
  | 0 => fullShare.left
  | 1 => fullShare.right

/-- Device `c`'s weights. -/
abbrev wAll (c : Dev nD) : Buf (Elt F) ((c : Thread nD τ).loc main_arg1) := m ((c : Thread nD τ).loc main_arg1)

/-- Slot `h` idle: its semaphore at zero, the slot, its share of the weights. -/
def idle (c : Dev nD) (h : Fin 2) : sProp 𝕄 :=
  iprop(semVal ((c : Thread nD τ), .dma (wSem h)) 0
    ∗ (∃ f : Buf (Elt F) ((wSlot h).view.loc (c : Thread nD τ)), (wSlot h).view.loc (c : Thread nD τ) ↦[(wSlot h).view.set]{fullShare} f)
    ∗ (((c : Thread nD τ).loc main_arg1) ↦{part h} wAll m c))

/-- What the copy for distance `d`, half `h` delivers: the slot rewritten, the columns it read. -/
def filled (c : Dev nD) (d : Fin 8) (h : Fin 2) (fd : Buf (Elt F) ((wSlot h).view.loc (c : Thread nD τ))) : sProp 𝕄 :=
  iprop(((wSlot h).view.loc (c : Thread nD τ) ↦[(wSlot h).view.set]{fullShare}
        ((wSlot h).view.write (Elt F) fd ((wSrc c d h).view.read (Elt F) (wAll m c)) Finset.univ))
    ∗ ((wSrc c d h).view.loc (c : Thread nD τ) ↦[(wSrc c d h).view.set]{part h} wAll m c))

/-- Slot `h` with that copy on its way. -/
def busy (c : Dev nD) (d : Fin 8) (h : Fin 2) : sProp 𝕄 :=
  iprop((∃ fd, Transfers.Flight EC (c : Thread nD τ) (.dma (wSem h)) () ((wSlot h).view.dmaCredit) (filled m c d h fd))
    ∗ (((c : Thread nD τ).loc main_arg1) ↦[Finset.univ \ (wSrc c d h).view.set]{part h} wAll m c))

/-- A share of the weights, in the columns a copy reads and the rest. -/
theorem w_split (c : Dev nD) (d : Fin 8) (h : Fin 2) :
    (((c : Thread nD τ).loc main_arg1) ↦{part h} wAll m c : sProp 𝕄)
      ⊣⊢ iprop(((wSrc c d h).view.loc (c : Thread nD τ) ↦[(wSrc c d h).view.set]{part h} wAll m c)
        ∗ (((c : Thread nD τ).loc main_arg1) ↦[Finset.univ \ (wSrc c d h).view.set]{part h} wAll m c)) :=
  pointsTo_split_subset (ℓ := (c : Thread nD τ).loc main_arg1) (I := (wSrc c d h).view.set) (S := Finset.univ) (Finset.subset_univ _)

/-- A box of a whole buffer, loaded through: its elements. -/
theorem load_set {b : Ref sig .tc} (r : Rect b.ty.shape) : (Memref.whole b).view.setOn r.toLoadRect.set = r.set :=
  Finset.map_refl

/-- Starting a copy. -/
theorem wGo_wp {c : Dev nD} {Q : PUnit → sProp 𝕄} (d : Fin 8) (h : Fin 2) (k : P F) :
    iprop(idle m c h ∗ (busy m c d h -∗ WP c k Q)) ⊢ WP c (wGo c d h k) Q := by
  unfold idle busy filled
  iintro ⟨⟨Hv, ⟨%f, Hs⟩, Hw⟩, Hk⟩
  ihave Hw := (w_split m c d h).1 $$ Hw
  icases Hw with ⟨Hr, Hrest⟩
  iapply (Transfers.wp_dmaLocal EC 𝒱₀ (c : Thread nD τ) none (src := wSrc c d h) (dst := wSlot h) (sm := .dma (wSem h)) (q := part h) (fs := wAll m c)
      (fd := f) () ((wSlot h).view.dmaCredit) rfl (View.dmaCredit_pos _ (by show 0 < S4096x512.numel; decide)) (subset_refl _)) $$ [Hr Hs Hv]
  · isplitl [Hr]; · iexact Hr
    isplitl [Hs]; · iexact Hs
    iexact Hv
  iintro HF
  iapply Hk
  isplitl [HF]
  · iexists f; iexact HF
  iexact Hrest

/-- Ending it and loading the slot. -/
theorem wGet_wp {c : Dev nD} {Q : PUnit → sProp 𝕄} (d : Fin 8) (h : Fin 2) (n : ℕ) (k : Vec F S1x4096x512 .f32 → P F) :
    iprop(common m K ∗ busy m c d h ∗ owe c (owedR c n) ∗ ((idle m c h ∗ owe c (owedR c n)) -∗ WP c (k (wTile m c d h)) Q))
      ⊢ WP c (wGet c d h k) Q := by
  unfold busy owe common
  iintro ⟨⟨#HR, #Hl⟩, ⟨⟨%fd, HF⟩, Hrest⟩, ⟨%W, HO⟩, Hk⟩
  iapply (Transfers.wp_waitLocalO EC 𝒱₀ (c : Thread nD τ) none () (N := (wSlot h).view.dmaCredit) rfl (D := filled m c d h fd)
      (O := owedR c n) (W := W)) $$ [HF HO]
  · isplitl [HF]; · iexact HF
    isplitl [HO]; · iexact HO
    ihave H := (mayWait_low c (wSem h) (by rw [wSem_val]; omega) n 7) $$ Hl
    rw [owedB_end, add_zero]
    iexact H
  unfold filled
  iintro ⟨⟨Hs, Hr⟩, Hv, HO⟩
  iapply (wp_load 𝒱₀ (c : Thread nD τ) none Set.univ (m := Memref.whole cc0_scratch0) (r := (wR h).toLoadRect)
      (S := (wSlot h).view.set) (by rw [wSlot_set]; exact (load_set (b := cc0_scratch0) (wR h)).subset)) $$ Hs
  iintro Hs
  rw [read_wSlot]
  iapply Hk
  isplitr [HO]
  · unfold idle
    isplitl [Hv]; · iexact Hv
    isplitl [Hs]; · iexists _; iexact Hs
    ihave Hw := (w_split m c d h).2 $$ [Hr Hrest]
    · isplitl [Hr] <;> iassumption
    iexact Hw
  iexists _; iexact HO

end Cert.KernelIdeal.A2A

end
-- ==== Proof.Sends.lean ====
/-
# The blocks made, sent, received and stored

The pieces over the send slots, the receive slots and the result; then a whole peer — two halves multiplied, stored and
sent, with the next copies started — and the own block.
-/
module

public import proofs.«01_k».proof.Proof.Steps

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The send slots -/

/-- Send slot `j` with its first `n` halves filled. -/
def sHold (c : Dev nD) (j : Fin 7) (n : ℕ) : sProp 𝕄 :=
  iprop(∃ f : S7x512x1024.Idx → Elt F .bf16, ⌜∀ i : S7x512x1024.Idx, (i 0).val = j.val → (i 2).val < 512 * n → f i = sentAt m c i⌝ ∗ sPts c j f)

/-- Nothing filled yet: any contents. -/
theorem sHold_zero (c : Dev nD) (j : Fin 7) (f : S7x512x1024.Idx → Elt F .bf16) : sPts c j f ⊢ sHold m c j 0 := by
  unfold sHold
  iintro H
  iexists f
  isplitr; · ipureintro; intro i _ h; omega
  iexact H
/-- Both filled: the block to send. -/
theorem sHold_two (c : Dev nD) (j : Fin 7) : sHold m c j 2 ⊢ sPts c j (sentAt m c) := by
  unfold sHold sPts
  iintro ⟨%f, %hf, H⟩
  ihave H := (Entails.of_eq (pointsTo_congr (ℓ := (sSlot j).view.loc (c : Thread nD τ)) (I := (sSlot j).view.set) (q := fullShare) (f := f) (g := sentAt m c)
    (fun i hi => hf i ((mem_tR j i).mp (sSlot_set j ▸ hi)) (i 2).isLt))) $$ H
  iexact H

/-- Half a slot lies in the slot. -/
theorem hR_sub (j : Fin 7) (h : Fin 2) : (hR j h).set ⊆ (sSlot j).view.set := fun i hi => by
  rw [sSlot_set]; exact (mem_tR j i).mpr ((mem_hR j h i).mp hi).1

/-- Storing half `h`. -/
theorem sPut_wp {c : Dev nD} {Q : PUnit → sProp 𝕄} (j : Fin 7) (h : Fin 2) (k : P F) :
    iprop(sHold m c j h.val ∗ (sHold m c j (h.val + 1) -∗ WP c k Q)) ⊢ WP c (sPut j h (sentHalf m c j h) k) Q := by
  unfold sHold sPts
  iintro ⟨⟨%f, %hf, H⟩, Hk⟩
  iapply (wp_load 𝒱₀ (c : Thread nD τ) none Set.univ (m := Memref.whole cc0_scratch1) (r := (hR j h).toLoadRect)
      (S := (sSlot j).view.set) ((load_set (b := cc0_scratch1) (hR j h)).subset.trans (hR_sub j h))) $$ H
  iintro H
  iapply (wp_store 𝒱₀ (c : Thread nD τ) none Set.univ (m := Memref.whole cc0_scratch1) (r := hR j h) (Mk := Finset.univ)
      (S := (sSlot j).view.set) (by rw [View.setOn_univ]; exact (View.set_slice_whole cc0_scratch1 (hR j h)).subset.trans (hR_sub j h))) $$ H
  iintro H
  iapply Hk
  iexists _
  isplitr
  · ipureintro; exact sent_put m c j h f hf
  iexact H

/-- Sending slot `j` to the device `j + 1` places on, into the slot that device has handed over. -/
theorem sGo_wp {c : Dev nD} {Q : PUnit → sProp 𝕄} (j : Fin 7) (k : P F) :
    iprop(common m K ∗ sPts c j (sentAt m c) ∗ barPay c j ∗ owe c (owedR c j.val)
        ∗ (dutyTok ER (sendCell c j) 0 0 ∗ dutyTok ER (recvCell (peer c j.succ) j) 0 0)
        ∗ ((cred (tallyAt (sendCell c j) () N) ∗ owe c (owedR c (j.val + 1))) -∗ WP c k Q))
      ⊢ WP c (sGo c j k) Q := by
  unfold common barPay owe sPts rPts
  iintro ⟨⟨#HR, #Hl⟩, Hs, ⟨%fd, Hd⟩, ⟨%W, HO⟩, ⟨Ht, Ht'⟩, Hk⟩
  iapply (Rounds.wp_send_pointsTo 𝒱₀ ER (sched m) (c : Thread nD τ) none (c' := (peer c j.succ : Thread nD τ)) (src := sSlot j) (dst := rSlot j)
    (sS := .dma (sSem j)) (sem := .dma (rSem j)) (κ₁ := K (c, .inr (.inl j))) (κ₂ := K (peer c j.succ, .inr (.inr j)))
    (r₁ := 0) (r₂ := 0) (d₁ := 0) (d₂ := 0) (q := fullShare) (fs := sentAt m c) (fd := fd)
    (by rw [duties_send]; exact Finset.mem_singleton_self _) (by rw [duties_recv]; exact Finset.mem_singleton_self _)
    () () N rfl (amount_send m c j 0) (amount_recv m (peer c j.succ) j 0) (O₀ := owedR c j.val) (owedR c (j.val + 1)) (owedR_succ c j) (W := W)
    (by rw [payload_send]; exact BI.Entails.refl _)
    (by
      rw [payload_recv, source_peer]; unfold rPts
      exact Entails.of_eq (pointsTo_congr (ℓ := (rSlot j).view.loc (peer c j.succ : Thread nD τ)) (fun i hi => copy_slot j fd (sentAt m c) i hi)))) $$ [Hs Hd HO Ht Ht']
  · isplitr; · iapply (inv_at m K (c, .inr (.inl j))); iexact HR
    isplitr; · iapply (inv_at m K (peer c j.succ, .inr (.inr j))); iexact HR
    isplitl [Hs]; · iexact Hs
    isplitl [Hd]; · iexact Hd
    isplitl [HO]; · iexact HO
    isplitl [Ht]; · iexact Ht
    isplitr; · iapply (reached_at m K (c, .inr (.inl j))); iexact HR
    isplitl [Ht']; · iexact Ht'
    iapply (reached_at m K (peer c j.succ, .inr (.inr j))); iexact HR
  iintro ⟨Hc, HO⟩
  iapply Hk
  isplitl [Hc]; · iexact Hc
  iexists W; iexact HO

/-- Waiting until it has left: the slot back, the semaphore at zero. -/
theorem sEnd_wp {c : Dev nD} {Q : PUnit → sProp 𝕄} (j : Fin 7) (k : P F) :
    iprop(common m K ∗ owe c 0 ∗ (cred (tallyAt (sendCell c j) () N) ∗ atPos ER (sendCell c j) 0 ∅ 0)
        ∗ ((owe c 0 ∗ (semVal (sendCell c j) 0 ∗ sPts c j (sentAt m c))) -∗ WP c k Q))
      ⊢ WP c (sEnd j k) Q := by
  unfold owe common
  iintro ⟨⟨#HR, #Hl⟩, ⟨%W, HO⟩, ⟨Hc, Hat⟩, Hk⟩
  iapply (Rounds.wp_wait_rest_token 𝒱₀ ER (sched m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m K (c, .inr (.inl j))); iexact HR
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  imod (Rounds.cell_close ER (sched m) (Set.mem_univ (K (c, .inr (.inl j)))) (fun h => h) (R := 0 + 1) (duties_later m (sendCell c j))) $$ [Hat] with Hz
  · isplitr; · iapply (inv_at m K (c, .inr (.inl j))); iexact HR
    iexact Hat
  iapply Hk
  isplitl [HO]
  · iexists _; iexact HO
  isplitl [Hz] <;> iassumption

/-! ## The result -/

/-- The result buffer, right at the indices in `D`. -/
def oHold (c : Dev nD) (D : S4096x1024.Idx → Prop) : sProp 𝕄 :=
  iprop(∃ f : (cc0_stg3_0 : Ref sig .tc).ty.Contents (Elt F), ⌜∀ i : S4096x1024.Idx, D i → f i = outAt m c i⌝ ∗ (((c : Thread nD τ).loc cc0_stg3_0) ↦{fullShare} f))

/-- Storing a box's worth of the result. -/
theorem oPut_wp {c : Dev nD} {Q : PUnit → sProp 𝕄} (D D' : S4096x1024.Idx → Prop) (r : Rect S4096x1024) (hn : 0 < r.shape.numel) (z : FVec F r.shape .f32)
    (hz : ∀ x, z x = outAt m c (r.emb x)) (hD : ∀ i, D' i → i ∉ r.set → D i) (k : P F) :
    iprop(oHold m c D ∗ (oHold m c D' -∗ WP c k Q)) ⊢ WP c (oPut r hn z k) Q := by
  unfold oHold
  iintro ⟨⟨%f, %hf, H⟩, Hk⟩
  iapply (wp_load 𝒱₀ (c : Thread nD τ) none Set.univ (m := Memref.whole cc0_stg3_0) (r := r.toLoadRect) (S := Finset.univ) (Finset.subset_univ _)) $$ H
  iintro H
  iapply (wp_store 𝒱₀ (c : Thread nD τ) none Set.univ (m := Memref.whole cc0_stg3_0) (r := r) (Mk := Finset.univ) (S := Finset.univ) (Finset.subset_univ _)) $$ H
  iintro H
  iapply Hk
  iexists _
  isplitr
  rotate_left
  · iexact H
  ipureintro
  intro i hi
  by_cases h : i ∈ r.set
  · obtain ⟨x, -, rfl⟩ := Finset.mem_map.mp (r.map_emb_univ ▸ h)
    exact (write_box (b := cc0_stg3_0) r f z x).trans (hz x)
  · exact (write_off (b := cc0_stg3_0) r f z h).trans (hf i (hD i hi h))

/-- What is stored once the own block and the first `n` received blocks are. -/
def stored (c : Dev nD) (n : ℕ) (i : S4096x1024.Idx) : Prop :=
  (i 0).val / 512 = c.val ∨ ∃ j : Fin 7, j.val < n ∧ (i 0).val / 512 = (source c j).val
/-- In the end everything. -/
theorem stored_all (c : Dev nD) (i : S4096x1024.Idx) : stored c 7 i := by
  have h0 : (i 0).val < 4096 := (i 0).isLt
  have hc : c.val < 8 := c.isLt
  by_cases h : (i 0).val / 512 = c.val
  · exact .inl h
  · refine .inr ⟨⟨(c.val + 7 - (i 0).val / 512) % 8, by omega⟩, ?_, ?_⟩
    · dsimp only; omega
    · rw [source_val]; dsimp only; omega

/-- Receiving slot `j` and storing it. -/
theorem rGet_wp {c : Dev nD} {Q : PUnit → sProp 𝕄} (j : Fin 7) (k : P F) :
    iprop(common m K ∗ (owe c 0 ∗ oHold m c (stored c j.val)) ∗ (cred (tallyAt (recvCell c j) () N) ∗ atPos ER (recvCell c j) 0 ∅ 0)
        ∗ (((owe c 0 ∗ oHold m c (stored c (j.val + 1))) ∗ (semVal (recvCell c j) 0 ∗ rPts c j (sentAt m (source c j)))) -∗ WP c k Q))
      ⊢ WP c (rGet c j k) Q := by
  unfold owe common
  iintro ⟨⟨#HR, #Hl⟩, ⟨⟨%W, HO⟩, Hout⟩, ⟨Hc, Hat⟩, Hk⟩
  iapply (Rounds.wp_wait_rest_token 𝒱₀ ER (sched m) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m K (c, .inr (.inr j))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  imod (Rounds.cell_close ER (sched m) (Set.mem_univ (K (c, .inr (.inr j)))) (fun h => h) (R := 0 + 1) (duties_later m (recvCell c j))) $$ [Hat] with Hz
  · isplitr; · iapply (inv_at m K (c, .inr (.inr j))); iexact HR
    iexact Hat
  unfold rPts
  iapply (wp_load 𝒱₀ (c : Thread nD τ) none Set.univ (m := Memref.whole cc0_scratch2) (r := (tR j).toLoadRect)
      (S := (rSlot j).view.set) (by rw [rSlot_set]; exact (load_set (b := cc0_scratch2) (tR j)).subset)) $$ Hp
  iintro Hp
  rw [read_rSlot]
  iapply (oPut_wp m (c := c) (stored c j.val) (stored c (j.val + 1)) (qR c j) h_S512x1024 (gotBlock m c j) (got_put m c j)
    (fun i hi hn => by
      rcases hi with h | ⟨j', hj', h⟩
      · exact .inl h
      · refine .inr ⟨j', ?_, h⟩
        by_contra hlt
        have e : j' = j := Fin.ext (by omega)
        exact hn ((mem_qR c j i).mpr (e ▸ h))) k)
  isplitl [Hout]; · iexact Hout
  iintro Hout
  iapply Hk
  isplitl [HO Hout]
  · isplitl [HO]; · iexists _; iexact HO
    iexact Hout
  isplitl [Hz] <;> iassumption

/-! ## A peer and the own block -/

/-- Between peers, `n` of them done: the arrivals still owed, slot 0 with the next copy on its way, slot 1 idle. -/
def between (c : Dev nD) (n : ℕ) : sProp 𝕄 :=
  iprop(owe c (owedR c n) ∗ busy m c ⟨(n + 1) % 8, Nat.mod_lt _ (by decide)⟩ 0 ∗ idle m c 1)

/-- What a peer takes: its receive slot, the send slot, the two duties. -/
def peerIn (c : Dev nD) (j : Fin 7) : sProp 𝕄 :=
  iprop(barPay c j ∗ (∃ f, sPts (F := F) c j f) ∗ (dutyTok ER (sendCell c j) 0 0 ∗ dutyTok ER (recvCell (peer c j.succ) j) 0 0))

/-- All of one peer: two halves computed and stored, the block sent. -/
theorem peer_wp {c : Dev nD} {Q : PUnit → sProp 𝕄} (j : Fin 7) (k : P F) :
    iprop(common m K ∗ between m c j.val ∗ peerIn c j ∗ ((between m c (j.val + 1) ∗ cred (tallyAt (sendCell c j) () N)) -∗ WP c k Q))
      ⊢ WP c (peer1 c (scal m c) (rows m c) j k) Q := by
  unfold between peerIn
  rw [show (⟨(j.val + 1) % 8, Nat.mod_lt _ (by decide)⟩ : Fin 8) = j.succ from Fin.ext (by show (j.val + 1) % 8 = j.val + 1; omega),
    show (⟨(j.val + 1 + 1) % 8, Nat.mod_lt _ (by decide)⟩ : Fin 8) = nxtD j from by revert j; decide]
  iintro ⟨#HR, ⟨HO, Hb, Hi⟩, ⟨Hd, ⟨%f, Hs⟩, Ht⟩, Hk⟩
  ihave Hs := (sHold_zero m c j f) $$ Hs
  iapply (wGo_wp m j.succ 1 _); isplitl [Hi]; · iexact Hi
  iintro Hb1
  iapply (wGet_wp m K j.succ 0 j.val _); isplitr; · iexact HR
  isplitl [Hb]; · iexact Hb
  isplitl [HO]; · iexact HO
  iintro ⟨Hi0, HO⟩
  iapply (sPut_wp m j 0 _); isplitl [Hs]; · iexact Hs
  iintro Hs
  iapply (wGo_wp m (nxtD j) 0 _); isplitl [Hi0]; · iexact Hi0
  iintro Hb0
  iapply (wGet_wp m K j.succ 1 j.val _); isplitr; · iexact HR
  isplitl [Hb1]; · iexact Hb1
  isplitl [HO]; · iexact HO
  iintro ⟨Hi1, HO⟩
  iapply (sPut_wp m j 1 _); isplitl [Hs]; · iexact Hs
  iintro Hs
  ihave Hs := (show sHold m c j ((1 : Fin 2).val + 1) ⊢ sPts c j (sentAt m c) from sHold_two m c j) $$ Hs
  iapply (sGo_wp m K j _); isplitr; · iexact HR
  isplitl [Hs]; · iexact Hs
  isplitl [Hd]; · iexact Hd
  isplitl [HO]; · iexact HO
  isplitl [Ht]; · iexact Ht
  iintro ⟨Hc, HO⟩
  iapply Hk
  isplitr [Hc]
  · isplitl [HO]; · iexact HO
    isplitl [Hb0] <;> iassumption
  iexact Hc

/-- The own block: both halves stored, both slots idle again. -/
theorem own_wp {c : Dev nD} {Q : PUnit → sProp 𝕄} (k : P F) :
    iprop(common m K ∗ between m c 7 ∗ oHold m c (fun _ => False) ∗ ((owe c 0 ∗ oHold m c (stored c 0) ∗ idle m c 0 ∗ idle m c 1) -∗ WP c k Q))
      ⊢ WP c (own1 c (scal m c) (rows m c) k) Q := by
  unfold between
  rw [show (⟨(7 + 1) % 8, Nat.mod_lt _ (by decide)⟩ : Fin 8) = 0 from rfl]
  iintro ⟨#HR, ⟨HO, Hb, Hi⟩, Hout, Hk⟩
  iapply (wGo_wp m 0 1 _); isplitl [Hi]; · iexact Hi
  iintro Hb1
  iapply (wGet_wp m K 0 0 7 _); isplitr; · iexact HR
  isplitl [Hb]; · iexact Hb
  isplitl [HO]; · iexact HO
  iintro ⟨Hi0, HO⟩
  iapply (oPut_wp m (c := c) (fun _ => False) (fun i => i ∈ (oR c 0).set) (oR c 0) h_S512x512 (ownHalf m c 0) (own_put0 m c) (fun i h hn => hn h) _)
  isplitl [Hout]; · iexact Hout
  iintro Hout
  iapply (wGet_wp m K 0 1 7 _); isplitr; · iexact HR
  isplitl [Hb1]; · iexact Hb1
  isplitl [HO]; · iexact HO
  iintro ⟨Hi1, HO⟩
  iapply (oPut_wp m (c := c) (fun i => i ∈ (oR c 0).set) (stored c 0) (oR c 1) h_S512x512 (ownHalf m c 1) (own_put1 m c)
    (fun i h hn => by
      rcases h with h | ⟨j, hj, -⟩
      · have h1 : (i 1).val < 1024 := (i 1).isLt
        refine (mem_oR c 0 i).mpr ⟨h, ?_⟩
        by_contra hne
        exact hn ((mem_oR c 1 i).mpr ⟨h, by show (i 1).val / 512 = 1; change ¬ (i 1).val / 512 = 0 at hne; omega⟩)
      · omega) _)
  isplitl [Hout]; · iexact Hout
  iintro Hout
  iapply Hk
  rw [owedR_end]
  isplitl [HO]; · iexact HO
  isplitl [Hout]; · iexact Hout
  isplitl [Hi0] <;> iassumption

end Cert.KernelIdeal.A2A

end
-- ==== Proof.Body.lean ====
/-
# The whole body

The pieces in the program's order, from what a device is launched with to its finished result, every semaphore back at
zero and every buffer back.
-/
module

public import proofs.«01_k».proof.Proof.Sends

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- The two scales and the rows, staged. -/
def staged (c : Dev nD) : sProp 𝕄 :=
  iprop((((c : Thread nD τ).loc cc0_stg0_0) ↦{fullShare} xAt m c) ∗ (((c : Thread nD τ).loc cc0_stg1_0) ↦{fullShare} saAt m c)
    ∗ (((c : Thread nD τ).loc cc0_stg2_0) ↦{fullShare} sbAt m c))

/-- The tokens and positions of a device: its tellings, its arrivals elsewhere, its departures; its cells. -/
def payToks (c : Dev nD) : sProp 𝕄 :=
  iprop((bigSep Finset.univ fun d : Fin 7 => dutyTok ER (barCell (peer c d.succ)) 0 d)
    ∗ (bigSep Finset.univ fun j : Fin 7 => dutyTok ER (sendCell c j) 0 0)
    ∗ bigSep Finset.univ fun j : Fin 7 => dutyTok ER (recvCell (peer c j.succ) j) 0 0)
/-- Where device `c` stands in the rounds of its own cells: at the start. -/
def positions (c : Dev nD) : sProp 𝕄 :=
  iprop(atPos ER (barCell c) 0 ∅ 0 ∗ (bigSep Finset.univ fun j : Fin 7 => atPos ER (sendCell c j) 0 ∅ 0)
    ∗ bigSep Finset.univ fun j : Fin 7 => atPos ER (recvCell c j) 0 ∅ 0)
/-- What the others owe it: seven tellings, seven arrivals. -/
def credits (c : Dev nD) : sProp 𝕄 :=
  iprop(cred (tallyAt (barCell c) () 7) ∗ bigSep Finset.univ fun j : Fin 7 => cred (tallyAt (recvCell c j) () N))
/-- The slots of the two transfer buffers, at any contents. -/
def anySlots (c : Dev nD) : sProp 𝕄 :=
  iprop((bigSep Finset.univ fun j : Fin 7 => iprop(∃ f, sPts (F := F) c j f)) ∗ bigSep Finset.univ fun j : Fin 7 => iprop(∃ f, rPts (F := F) c j f))
/-- Its protocol semaphores at zero. -/
def zeros (c : Dev nD) : sProp 𝕄 :=
  iprop(semVal (barCell c) 0 ∗ (bigSep Finset.univ fun j : Fin 7 => semVal (sendCell c j) 0) ∗ bigSep Finset.univ fun j : Fin 7 => semVal (recvCell c j) 0)

/-- What the body starts from, beside the records and the staged inputs, -/
def bodyIn (c : Dev nD) : sProp 𝕄 :=
  iprop(owe c (O₀ c) ∗ payToks c ∗ positions c ∗ credits c ∗ anySlots c ∗ idle m c 0 ∗ idle m c 1 ∗ oHold m c (fun _ => False))
/-- and what it ends with. -/
def bodyOut (c : Dev nD) : sProp 𝕄 :=
  iprop(owe c 0 ∗ zeros c ∗ anySlots c ∗ idle m c 0 ∗ idle m c 1 ∗ (((c : Thread nD τ).loc cc0_stg3_0) ↦{fullShare} outAt m c))

/-- Two zero offsets are the zero offset. -/
theorem hz2 : (![0, 0] : Fin 2 → Nat) = fun _ => 0 := funext fun a => by fin_cases a <;> rfl

/-- From the scales and the rows on. -/
theorem rest_wp {c : Dev nD} {Q : PUnit → sProp 𝕄} :
    iprop(common m K ∗ owe c (owedR c 0) ∗ (idle m c 0 ∗ idle m c 1)
        ∗ (bigSep Finset.univ fun j => peerIn c j)
        ∗ (bigSep Finset.univ fun j : Fin 7 => iprop(cred (tallyAt (recvCell c j) () N) ∗ atPos ER (recvCell c j) 0 ∅ 0))
        ∗ (bigSep Finset.univ fun j : Fin 7 => atPos ER (sendCell c j) 0 ∅ 0)
        ∗ oHold m c (fun _ => False)
        ∗ ((owe c 0 ∗ (idle m c 0 ∗ idle m c 1) ∗ oHold m c (stored c 7)
            ∗ (bigSep Finset.univ fun j : Fin 7 => iprop(semVal (recvCell c j) 0 ∗ rPts c j (sentAt m (source c j))))
            ∗ (bigSep Finset.univ fun j : Fin 7 => iprop(semVal (sendCell c j) 0 ∗ sPts c j (sentAt m c)))) -∗ Q ⟨⟩))
      ⊢ WP c (rest1 c (scal m c) (rows m c)) Q := by
  iintro ⟨#HR, HO, ⟨Hi0, Hi1⟩, Hp, Hr, Hs, Hout, Hk⟩
  iapply (wGo_wp m 1 0 _); isplitl [Hi0]; · iexact Hi0
  iintro Hb
  iapply (seven m K (peer1 c (scal m c) (rows m c)) (between m c) (peerIn c) (fun j => cred (tallyAt (sendCell c j) () N)) (fun j k => peer_wp m K j k) _)
  isplitr; · iexact HR
  isplitl [HO Hb Hi1]
  · unfold between
    isplitl [HO]; · iexact HO
    isplitl [Hb]; · iexact Hb
    iexact Hi1
  isplitl [Hp]; · iexact Hp
  iintro ⟨Hbt, Hc⟩
  iapply (own_wp m K _)
  isplitr; · iexact HR
  isplitl [Hbt]; · iexact Hbt
  isplitl [Hout]; · iexact Hout
  iintro ⟨HO, Hout, Hi0, Hi1⟩
  iapply (seven m K (rGet c) (fun n => iprop(owe c 0 ∗ oHold m c (stored c n)))
    (fun j : Fin 7 => iprop(cred (tallyAt (recvCell c j) () N) ∗ atPos ER (recvCell c j) 0 ∅ 0))
    (fun j : Fin 7 => iprop(semVal (recvCell c j) 0 ∗ rPts c j (sentAt m (source c j)))) (fun j k => rGet_wp m K j k) _)
  isplitr; · iexact HR
  isplitl [HO Hout]
  · isplitl [HO] <;> iassumption
  isplitl [Hr]; · iexact Hr
  iintro ⟨⟨HO, Hout⟩, Hr⟩
  iapply (seven m K sEnd (fun _ => owe c 0)
    (fun j : Fin 7 => iprop(cred (tallyAt (sendCell c j) () N) ∗ atPos ER (sendCell c j) 0 ∅ 0))
    (fun j : Fin 7 => iprop(semVal (sendCell c j) 0 ∗ sPts c j (sentAt m c))) (fun j k => sEnd_wp m K j k) _)
  isplitr; · iexact HR
  isplitl [HO]; · iexact HO
  isplitl [Hc Hs]
  · rw [bigSep_sep']
    isplitl [Hc] <;> iassumption
  iintro ⟨HO, Hs⟩
  unfold WP
  rw [wp_ret]; imodintro
  iapply Hk
  isplitl [HO]; · iexact HO
  isplitl [Hi0 Hi1]
  · isplitl [Hi0] <;> iassumption
  isplitl [Hout]; · iexact Hout
  isplitl [Hr] <;> iassumption

/-- A filled slot is a slot. -/
theorem any_of {I : Type} {V : Type} (P : I → V → sProp 𝕄) (v : I → V) (s : Finset I) :
    bigSep s (fun j => P j (v j)) ⊢ bigSep s (fun j => iprop(∃ f, P j f)) :=
  bigSep_mono fun j _ => by
    show P j (v j) ⊢ iprop(∃ f, P j f)
    iintro H; iexists (v j); iexact H

set_option maxHeartbeats 800000 in
/-- The body, from `bodyIn` to `bodyOut`. -/
theorem body_wp (c : Dev nD) (Q : PUnit → sProp 𝕄) :
    iprop(common m K ∗ staged m c ∗ bodyIn m c ∗ ((staged m c ∗ bodyOut m c) -∗ Q ⟨⟩)) ⊢ WP c (body1 (F := F)) Q := by
  have hrev : (bigSep Finset.univ fun j : Fin 7 => iprop(∃ f, rPts (F := F) c j f)) ⊢ (bigSep Finset.univ fun d : Fin 7 => iprop(∃ f, rPts (F := F) c (Fin.rev d) f) : sProp 𝕄) := by
    rw [bigSep_univ_equiv Fin.revPerm (fun j : Fin 7 => iprop(∃ f, rPts (F := F) c j f))]; rfl
  have hpeer : iprop((bigSep Finset.univ fun j => barPay c j) ∗ (bigSep Finset.univ fun j : Fin 7 => iprop(∃ f, sPts (F := F) c j f))
      ∗ (bigSep Finset.univ fun j : Fin 7 => dutyTok ER (sendCell c j) 0 0) ∗ bigSep Finset.univ fun j : Fin 7 => dutyTok ER (recvCell (peer c j.succ) j) 0 0)
        ⊢ (bigSep Finset.univ fun j => peerIn (F := F) c j : sProp 𝕄) := by
    unfold peerIn; rw [bigSep_sep', bigSep_sep', bigSep_sep']
  unfold body1 WP
  rw [wp_deviceId]
  unfold staged bodyIn bodyOut payToks positions credits anySlots zeros O₀
  iintro ⟨#HR, ⟨Hx, Ha, Hb⟩, ⟨HO, ⟨Htb, Hts, Htr⟩, ⟨Hpb, Hps, Hpr⟩, ⟨Hcb, Hcr⟩, ⟨Hss, Hrs⟩, Hi0, Hi1, Hout⟩, Hk⟩
  ihave Hrs := hrev $$ Hrs
  iapply (seven m K (fun d => sig1 c d.succ) (fun n => owe c (owedR c 0 + owedB c n))
    (fun d : Fin 7 => iprop(dutyTok ER (barCell (peer c d.succ)) 0 d ∗ ∃ f, rPts (F := F) c (Fin.rev d) f)) (fun _ => iprop(emp)) (fun d k => sig_wp m K d k) _)
  isplitr; · iexact HR
  isplitl [HO]; · iexact HO
  isplitl [Htb Hrs]
  · rw [bigSep_sep']
    isplitl [Htb] <;> iassumption
  iintro ⟨HO, -⟩
  iapply (bar_wp m K _)
  isplitr; · iexact HR
  isplitl [HO]; · iexact HO
  isplitl [Hcb Hpb]
  · isplitl [Hcb] <;> iassumption
  iintro ⟨HO, Hzb, Hbar⟩
  iapply (wp_smemLoadElt 𝒱₀ (c : Thread nD τ) none Set.univ (m := Memref.whole cc0_stg1_0) (r := eR) (x := e0) (S := Finset.univ) (q := fullShare) (f := saAt m c) (Finset.subset_univ _)) $$ Ha
  iintro Ha
  iapply (wp_smemLoadElt 𝒱₀ (c : Thread nD τ) none Set.univ (m := Memref.whole cc0_stg2_0) (r := eR) (x := e0) (S := Finset.univ) (q := fullShare) (f := sbAt m c) (Finset.subset_univ _)) $$ Hb
  iintro Hb
  iapply (wp_load 𝒱₀ (c : Thread nD τ) none Set.univ (m := Memref.whole cc0_stg0_0) (S := Finset.univ) (Finset.subset_univ _)) $$ Hx
  iintro Hx
  rw [show (Memref.whole cc0_stg0_0).view.readAt (Elt F) (Rect.unit (s := S512x4096) ![0, 0] S512x4096.size inb_S512x4096_S512x4096_0_0).toLoadRect (xAt m c)
    = xAt m c from Memref.readAt_unit_zero (Elt F) cc0_stg0_0 hz2 _ _]
  iapply (rest_wp m K (c := c) (Q := Q))
  isplitr; · iexact HR
  isplitl [HO]; · rw [owedB_end, add_zero]; iexact HO
  isplitl [Hi0 Hi1]
  · isplitl [Hi0] <;> iassumption
  isplitl [Hbar Hss Hts Htr]
  · iapply hpeer
    isplitl [Hbar]; · iexact Hbar
    isplitl [Hss]; · iexact Hss
    isplitl [Hts] <;> iassumption
  isplitl [Hcr Hpr]
  · rw [bigSep_sep']
    isplitl [Hcr] <;> iassumption
  isplitl [Hps]; · iexact Hps
  isplitl [Hout]; · iexact Hout
  iintro ⟨HO, ⟨Hi0, Hi1⟩, Hout, Hr, Hs⟩
  ihave Hr := (Entails.of_eq (bigSep_sep' Finset.univ (fun j : Fin 7 => semVal (recvCell c j) 0) (fun j => rPts c j (sentAt m (source c j))))) $$ Hr
  ihave Hs := (Entails.of_eq (bigSep_sep' Finset.univ (fun j : Fin 7 => semVal (sendCell c j) 0) (fun j => sPts c j (sentAt m c)))) $$ Hs
  icases Hr with ⟨Hzr, Hr⟩
  icases Hs with ⟨Hzs, Hs⟩
  iapply Hk
  isplitl [Hx Ha Hb]
  · isplitl [Hx]; · iexact Hx
    isplitl [Ha] <;> iassumption
  isplitl [HO]; · iexact HO
  isplitl [Hzb Hzs Hzr]
  · isplitl [Hzb]; · iexact Hzb
    isplitl [Hzs] <;> iassumption
  isplitl [Hr Hs]
  · isplitl [Hs]
    · iapply (any_of (fun j : Fin 7 => sPts (F := F) c j) (fun _ => sentAt m c)); iexact Hs
    · iapply (any_of (fun j : Fin 7 => rPts (F := F) c j) (fun j => sentAt m (source c j))); iexact Hr
  isplitl [Hi0]; · iexact Hi0
  isplitl [Hi1]; · iexact Hi1
  unfold oHold
  icases Hout with ⟨%f, %hf, Hout⟩
  rw [show outAt m c = f from funext fun i => (hf i (stored_all c i)).symm]
  iexact Hout

end Cert.KernelIdeal.A2A

end
-- ==== Proof.Deal.lean ====
/-
# Dealing out the launch

Each device's cells are opened under names all devices share; the tokens of a cell's duties go to the devices that pay
them; what is owed to a device becomes its credits; the scratch buffers are cut into slots, and put together again.
-/
module

public import proofs.«01_k».proof.Proof.Body

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores -/

/-- The kernel's own semaphores: the weights' two, the departures, the arrivals. -/
abbrev osem : Fin 2 ⊕ (Fin 7 ⊕ Fin 7) → SemLoc sig
  | .inl h => .dma (wSem h)
  | .inr (.inl j) => .dma (sSem j)
  | .inr (.inr j) => .dma (rSem j)

/-- The list names every semaphore of the kernel's own, once. -/
theorem ownSemFacts : Pipeline.OwnSemFacts cfg0.spec osem := by decide

/-- The weights' two at zero. -/
def wZeros (c : Dev nD) : sProp 𝕄 := bigSep Finset.univ fun h : Fin 2 => semVal ((c : Thread nD τ), .dma (wSem h)) 0

/-- The kernel's own semaphores at zero, part by part. -/
theorem ownSems0_eq (c : Dev nD) : (Pipeline.ownSems0 (Ix := Unit) (Name := ℕ) (U := UU) (Lvl := ℕ) (Val := Elt F) (τ := τ) osem c : sProp 𝕄)
    = iprop(wZeros c ∗ (bigSep Finset.univ fun j : Fin 7 => semVal (sendCell c j) 0) ∗ bigSep Finset.univ fun j : Fin 7 => semVal (recvCell c j) 0) := by
  unfold Pipeline.ownSems0 wZeros
  rw [bigSep_univ_sum, bigSep_univ_sum]; rfl
/-- The barrier's is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a device's cells, part by part. -/
theorem bigSep_CK (Φ : CK → sProp 𝕄) :
    bigSep Finset.univ Φ = iprop(Φ (.inl ()) ∗ (bigSep Finset.univ fun j : Fin 7 => Φ (.inr (.inl j))) ∗ bigSep Finset.univ fun j : Fin 7 => Φ (.inr (.inr j))) := by
  rw [bigSep_univ_sum, bigSep_univ_sum, show (Finset.univ : Finset Unit) = {()} from rfl, bigSep_singleton]; rfl

/-- No two cells of a device share a semaphore, -/
theorem csem_injective : Function.Injective csem := by decide
/-- and no two cells of the mesh are one. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All the protocol's cells. -/
def allCells : Finset (GSem nD τ sig) := Finset.univ.map ⟨kcell, kcell_injective⟩

/-- The duties: seven of a barrier, one of a departure, one of an arrival. -/
abbrev DK : Type := Fin 7 ⊕ (Fin 7 ⊕ Fin 7)
/-- The semaphore and the number of a duty. -/
abbrev dsem : DK → SemLoc sig × Fin 7
  | .inl d => (.reg barS, d)
  | .inr (.inl j) => (.dma (sSem j), 0)
  | .inr (.inr j) => (.dma (rSem j), 0)
/-- No two duties of a device are one, -/
theorem dsem_injective : Function.Injective dsem := by decide
/-- A duty of the mesh: the cell, its only round, the number. -/
abbrev duty (ck : Dev nD × DK) : GSem nD τ sig × ℕ × Fin 7 := (((ck.1 : Thread nD τ), (dsem ck.2).1), 0, (dsem ck.2).2)
/-- and no two of the mesh are one. -/
theorem duty_injective : Function.Injective duty := by
  rintro ⟨c, k⟩ ⟨c', k'⟩ h
  have h1 : c = c' := congrArg (fun x : GSem nD τ sig × ℕ × Fin 7 => x.1.1.1) h
  have h2 : k = k' := dsem_injective (congrArg (fun x : GSem nD τ sig × ℕ × Fin 7 => (x.1.2, x.2.2)) h)
  rw [h1, h2]
/-- All of them. -/
def allDuties : Finset (GSem nD τ sig × ℕ × Fin 7) := Finset.univ.map ⟨duty, duty_injective⟩

/-- The launch element: the pipeline's part, the protocol's, nothing of the local copies'. -/
def u₀ : UU := (initOf (Pipeline.cells cfgs cellOf_inj) (Pipeline.launchToks cfgs cellOf_inj), (initOf allCells allDuties, 1))

/-- It splits into the first two. -/
theorem u₀_split : (ownU u₀ : sProp 𝕄)
    ⊢ iprop(BI.own (EP (initOf (Pipeline.cells cfgs cellOf_inj) (Pipeline.launchToks cfgs cellOf_inj))) ∗ BI.own (ER (initOf allCells allDuties))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf allCells allDuties, (1 : Counters)))))

/-! ## The cells opened, the tokens dealt -/

/-- The tokens of the duties of device `c`'s own cells. -/
def toks (c : Dev nD) : sProp 𝕄 :=
  iprop((bigSep Finset.univ fun d : Fin 7 => dutyTok ER (barCell c) 0 d)
    ∗ (bigSep Finset.univ fun j : Fin 7 => dutyTok ER (sendCell c j) 0 0)
    ∗ bigSep Finset.univ fun j : Fin 7 => dutyTok ER (recvCell c j) 0 0)

/-- What the launch element deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

/-- What the devices make of it together. -/
def G' (c : Dev nD) : sProp 𝕄 := iprop((∃ K, records m K) ∗ payToks c ∗ positions c ∗ wZeros c)

/-- The protocol's part of the launch element is every device's deal. -/
theorem fund_all : BI.own (ER (initOf allCells allDuties)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => toks c := by
    unfold allDuties; rw [bigSep_map, bigSep_univ_prod]
    exact bigSep_congr fun c _ => by unfold toks; rw [bigSep_univ_sum, bigSep_univ_sum]; rfl
  iintro HX
  imod (Rounds.fund ER (sched m) allCells allDuties) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- One device's cells allocated. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ wZeros c) := by
  unfold G
  rw [ownSems0_eq, unscopedSems0_eq]
  iintro ⟨⟨Hw, Hs, Hr⟩, Hb, Hst, Hat, Htok⟩
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hs Hr Hb Hst] with Hinv
  · isplitr [Hst]
    · rw [bigSep_CK]
      isplitl [Hb]; · iexact Hb
      isplitl [Hs] <;> iassumption
    iexact Hst
  imodintro
  isplitl [Hinv]; · iexact Hinv
  isplitl [Hat]; · iexact Hat
  isplitl [Htok] <;> iassumption

/-- Going `d + 1` places on, as a rearrangement of the devices. -/
def shift (d : Fin 7) : Dev nD ≃ Dev nD := ⟨fun c => peer c d.succ, fun c => source c d, fun c => source_peer c d, fun c => peer_source c d⟩

/-- A family over devices and distances, regrouped by the device the distance leads to. -/
theorem around (Φ : Dev nD → Fin 7 → sProp 𝕄) :
    (bigSep Finset.univ fun c : Dev nD => bigSep Finset.univ fun d : Fin 7 => Φ c d)
      = bigSep Finset.univ fun c : Dev nD => bigSep Finset.univ fun d : Fin 7 => Φ (peer c d.succ) d := by
  rw [bigSep_univ_comm, bigSep_univ_comm (fun (c : Dev nD) (d : Fin 7) => Φ (peer c d.succ) d)]
  exact bigSep_congr fun d _ => bigSep_univ_equiv (shift d) fun c => Φ c d

/-- Every duty's token with the device that pays it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around (fun c d => (dutyTok ER (barCell c) 0 d : sProp 𝕄)), around (fun c j => (dutyTok ER (recvCell c j) 0 0 : sProp 𝕄))]

/-- Something persistent given to every member of a family. -/
theorem bigSep_given {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells' names made common. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ wZeros c) : sProp 𝕄)
      ⊢ bigSep Finset.univ (G' m) := by
  rw [bigSep_sep', bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hw⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_given (R := records m K) (Φ := fun c : Dev nD => iprop((payToks c ∗ positions c) ∗ wZeros c)) fun c _ => by
    unfold G'
    iintro ⟨#H, ⟨H1, H2⟩, H3⟩
    isplitr; · iexists K; iexact H
    isplitl [H1]; · iexact H1
    isplitl [H2] <;> iassumption)
  isplitr
  · unfold records; isplitl; · iexact HI
    iexact HR
  rw [bigSep_sep', bigSep_sep']
  isplitl [Hat Htk]
  · isplitl [Htk]; · iexact Htk
    iapply (show (bigSep Finset.univ fun c : Dev nD => bigSep Finset.univ fun k : CK => (atPos ER (kcell (c, k)) 0 ∅ 0 : sProp 𝕄))
        ⊢ (bigSep Finset.univ fun c : Dev nD => positions c : sProp 𝕄) from
      bigSep_mono fun c _ => show _ ⊢ positions c by unfold positions; rw [bigSep_CK])
    iexact Hat
  iexact Hw

/-- The devices' common step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

/-! ## The credits -/

/-- What a rearrangement of the devices owes a device's semaphore is one payment. -/
theorem cred_of (σ : Dev nD ≃ Dev nD) (sm : SemLoc sig) (n : ℕ) (c : Dev nD) :
    (Pipeline.launchCred (fun d => tallyAt ((σ d : Thread nD τ), sm) () n) c : sProp 𝕄) ⊢ cred (tallyAt ((c : Thread nD τ), sm) () n) := by
  refine (Pipeline.launchCred_elim _ c sm).trans (Entails.of_eq ?_)
  congr 1
  unfold tallyAt
  refine congrArg _ (Finsupp.ext fun u => ?_)
  cases u
  rw [Pipeline.launchCredit_owing, Finsupp.single_eq_same, Finset.sum_eq_single (σ.symm c)]
  · show tallyAt ((σ (σ.symm c) : Thread nD τ), sm) () n ((c : Thread nD τ), sm) () = n
    rw [Equiv.apply_symm_apply, tallyAt_apply, if_pos ⟨rfl, rfl⟩]
  · intro d _ hd
    show tallyAt ((σ d : Thread nD τ), sm) () n ((c : Thread nD τ), sm) () = 0
    rw [tallyAt_apply, if_neg]
    rintro ⟨h, -⟩
    exact hd ((Equiv.symm_apply_eq σ).mpr (congrArg (fun g : GSem nD τ sig => g.1.1) h)).symm
  · intro h; exact absurd (Finset.mem_univ _) h

/-- Seven payments of one unit are a payment of seven. -/
theorem cred_seven (g : GSem nD τ sig) :
    (bigSep Finset.univ fun _ : Fin 7 => (cred (tallyAt g () 1) : sProp 𝕄)) ⊢ cred (tallyAt g () 7) := by
  have h (n k : ℕ) : iprop(cred (tallyAt g () n) ∗ cred (tallyAt g () k)) ⊢ (cred (tallyAt g () (n + k)) : sProp 𝕄) := by
    rw [← tallyAt_add]; exact (cred_add _ _).2
  rw [bigSep_univ_eq_bigSepL [0, 1, 2, 3, 4, 5, 6] (by decide) (by decide)]
  exact (sep_mono_right <| (sep_mono_right <| (sep_mono_right <| (sep_mono_right <| (sep_mono_right <| h 1 1).trans (h 1 2)).trans (h 1 3)).trans (h 1 4)).trans
    (h 1 5)).trans (h 1 6)

/-- What all the devices owe at the launch is, for device `c`, its credits. -/
theorem creds (c : Dev nD) : (Pipeline.launchCred O₀ c : sProp 𝕄) ⊢ credits c := by
  have hR : (Pipeline.launchCred (fun d => owedR d 0) c : sProp 𝕄) ⊢ bigSep Finset.univ fun j : Fin 7 => cred (tallyAt (recvCell c j) () N) := by
    unfold owedR
    rw [show (Finset.univ.filter fun j : Fin 7 => 0 ≤ j.val) = Finset.univ by decide,
      Pipeline.launchCred_sum Finset.univ (fun (j : Fin 7) (d : Dev nD) => tallyAt (recvCell (peer d j.succ) j) () N) c]
    exact bigSep_mono fun j _ => cred_of (shift j) (.dma (rSem j)) N c
  have hB : (Pipeline.launchCred (fun d => owedB d 0) c : sProp 𝕄) ⊢ cred (tallyAt (barCell c) () 7) := by
    unfold owedB
    rw [show (Finset.univ.filter fun j : Fin 7 => 0 ≤ j.val) = Finset.univ by decide,
      Pipeline.launchCred_sum Finset.univ (fun (j : Fin 7) (d : Dev nD) => tallyAt (barCell (peer d j.succ)) () 1) c]
    exact (bigSep_mono fun j _ => cred_of (shift j) (.reg barS) 1 c).trans (cred_seven (barCell c))
  unfold O₀ credits
  rw [Pipeline.launchCred_add]
  iintro ⟨H1, H2⟩
  ihave H1 := hR $$ H1
  ihave H2 := hB $$ H2
  isplitl [H2] <;> iassumption

/-! ## The buffers in slots -/

/-- A whole buffer at some contents is its parts at some contents. -/
theorem cut {T : Type} [Fintype T] [DecidableEq T] (ℓ : Loc nD τ sig) (Kt : T → Finset (Idx ℓ)) (hd : ∀ t t', t ≠ t' → Disjoint (Kt t) (Kt t'))
    (hc : Finset.univ.biUnion Kt = Finset.univ) :
    (iprop(∃ f : Buf (Elt F) ℓ, ℓ ↦{fullShare} f) : sProp 𝕄) ⊢ bigSep Finset.univ fun t => iprop(∃ f : Buf (Elt F) ℓ, ℓ ↦[Kt t]{fullShare} f) := by
  have key (f : Buf (Elt F) ℓ) : (ℓ ↦{fullShare} f : sProp 𝕄) ⊢ bigSep Finset.univ fun t => iprop(∃ f : Buf (Elt F) ℓ, ℓ ↦[Kt t]{fullShare} f) := by
    rw [← hc, pointsTo_biUnion Finset.univ Kt fun t _ t' _ h => hd t t' h]
    exact any_of (fun (t : T) (f : Buf (Elt F) ℓ) => (ℓ ↦[Kt t]{fullShare} f : sProp 𝕄)) (fun _ => f) Finset.univ
  iintro ⟨%f, H⟩
  iapply (key f); iexact H
/-- And back. -/
theorem uncut {T : Type} [Fintype T] [DecidableEq T] (ℓ : Loc nD τ sig) (Kt : T → Finset (Idx ℓ)) (hd : ∀ t t', t ≠ t' → Disjoint (Kt t) (Kt t'))
    (hc : Finset.univ.biUnion Kt = Finset.univ) (f₀ : Buf (Elt F) ℓ) :
    (bigSep Finset.univ fun t => iprop(∃ f : Buf (Elt F) ℓ, ℓ ↦[Kt t]{fullShare} f)) ⊢ (iprop(∃ f : Buf (Elt F) ℓ, ℓ ↦{fullShare} f) : sProp 𝕄) := by
  haveI : ∀ t : T, Nonempty (Buf (Elt F) ℓ) := fun _ => ⟨f₀⟩
  iintro H
  ihave H := (BI.bigSep_exists_pi Finset.univ (fun (t : T) (f : Buf (Elt F) ℓ) => (ℓ ↦[Kt t]{fullShare} f : sProp 𝕄))) $$ H
  icases H with ⟨%fs, H⟩
  ihave H := (pointsTo_biUnion_join Finset.univ Kt fs f₀ fun t _ t' _ h => hd t t' h) $$ H
  icases H with ⟨%g, -, H⟩
  rw [hc]
  iexists g; iexact H

/-- Two slots of a transfer buffer share no element, -/
theorem t_disj (j j' : Fin 7) (h : j ≠ j') : Disjoint (tR j).set (tR j').set :=
  Finset.disjoint_left.mpr fun i hi hi' => h (Fin.ext (((mem_tR j i).mp hi).symm.trans ((mem_tR j' i).mp hi')))
/-- and every element is in one of the seven. -/
theorem t_cover : (Finset.univ.biUnion fun j : Fin 7 => (tR j).set) = Finset.univ :=
  Finset.eq_univ_iff_forall.mpr fun i => Finset.mem_biUnion.mpr ⟨⟨(i 0).val, (i 0).isLt⟩, Finset.mem_univ _, (mem_tR _ i).mpr rfl⟩
/-- The two slots of the weight buffer share no element, -/
theorem w_disj (h h' : Fin 2) (hne : h ≠ h') : Disjoint (wR h).set (wR h').set :=
  Finset.disjoint_left.mpr fun i hi hi' => hne (Fin.ext (((mem_wR h i).mp hi).symm.trans ((mem_wR h' i).mp hi')))
/-- and every element is in one of the two. -/
theorem w_cover : (Finset.univ.biUnion fun h : Fin 2 => (wR h).set) = Finset.univ :=
  Finset.eq_univ_iff_forall.mpr fun i => Finset.mem_biUnion.mpr ⟨⟨(i 0).val, (i 0).isLt⟩, Finset.mem_univ _, (mem_wR _ i).mpr rfl⟩

/-- The slots of the weight buffer, at any contents. -/
def wSlots (c : Dev nD) : sProp 𝕄 := bigSep Finset.univ fun h : Fin 2 =>
  iprop(∃ f : Buf (Elt F) ((c : Thread nD τ).loc cc0_scratch0), ((c : Thread nD τ).loc cc0_scratch0) ↦[(wR h).set]{fullShare} f)

/-- A send slot as a part of its buffer. -/
theorem sPts_eq (c : Dev nD) (j : Fin 7) (f : S7x512x1024.Idx → Elt F .bf16) :
    sPts c j f = (((c : Thread nD τ).loc cc0_scratch1) ↦[(tR j).set]{fullShare} f : sProp 𝕄) := by unfold sPts; rw [sSlot_set]
/-- A receive slot as a part of its buffer. -/
theorem rPts_eq (c : Dev nD) (j : Fin 7) (f : S7x512x1024.Idx → Elt F .bf16) :
    rPts c j f = (((c : Thread nD τ).loc cc0_scratch2) ↦[(tR j).set]{fullShare} f : sProp 𝕄) := by unfold rPts; rw [rSlot_set]

/-- The three scratch buffers are their slots, -/
theorem scratch_in (c : Dev nD) : (Pipeline.scopedRest cfg0.spec c : sProp 𝕄) ⊢ iprop(wSlots c ∗ anySlots c) := by
  rw [scopedRest0_eq]
  unfold wSlots anySlots
  simp only [sPts_eq, rPts_eq]
  iintro ⟨H0, H1, H2⟩
  ihave H0 := (cut ((c : Thread nD τ).loc cc0_scratch0) (fun h : Fin 2 => (wR h).set) w_disj w_cover) $$ H0
  ihave H1 := (cut ((c : Thread nD τ).loc cc0_scratch1) (fun j : Fin 7 => (tR j).set) t_disj t_cover) $$ H1
  ihave H2 := (cut ((c : Thread nD τ).loc cc0_scratch2) (fun j : Fin 7 => (tR j).set) t_disj t_cover) $$ H2
  isplitl [H0]; · iexact H0
  isplitl [H1] <;> iassumption
include m in
/-- and the slots the buffers. -/
theorem scratch_out (c : Dev nD) : iprop(wSlots c ∗ anySlots c) ⊢ (Pipeline.scopedRest cfg0.spec c : sProp 𝕄) := by
  rw [scopedRest0_eq]
  unfold wSlots anySlots
  simp only [sPts_eq, rPts_eq]
  iintro ⟨H0, H1, H2⟩
  ihave H0 := (uncut ((c : Thread nD τ).loc cc0_scratch0) (fun h : Fin 2 => (wR h).set) w_disj w_cover (m ((c : Thread nD τ).loc cc0_scratch0))) $$ H0
  ihave H1 := (uncut ((c : Thread nD τ).loc cc0_scratch1) (fun j : Fin 7 => (tR j).set) t_disj t_cover (m ((c : Thread nD τ).loc cc0_scratch1))) $$ H1
  ihave H2 := (uncut ((c : Thread nD τ).loc cc0_scratch2) (fun j : Fin 7 => (tR j).set) t_disj t_cover (m ((c : Thread nD τ).loc cc0_scratch2))) $$ H2
  isplitl [H0]; · iexact H0
  isplitl [H1] <;> iassumption

/-- The weights are the two shares the slots' copies read from. -/
theorem w_shares (c : Dev nD) : (((c : Thread nD τ).loc main_arg1) ↦{fullShare} wAll m c : sProp 𝕄)
    ⊣⊢ iprop((((c : Thread nD τ).loc main_arg1) ↦{part 0} wAll m c) ∗ (((c : Thread nD τ).loc main_arg1) ↦{part 1} wAll m c)) :=
  pointsTo_share (PosShare.mem_left_op_right fullShare)

/-- Both slots idle: their semaphores at zero, the slots, the weights. -/
theorem idle_both (c : Dev nD) : iprop(wZeros c ∗ wSlots c ∗ (((c : Thread nD τ).loc main_arg1) ↦{fullShare} wAll m c)) ⊣⊢ iprop(idle m c 0 ∗ idle m c 1) := by
  have e2 (X : Fin 2 → sProp 𝕄) : bigSep Finset.univ X = iprop(X 0 ∗ X 1) := bigSep_univ_eq_bigSepL [0, 1] (by decide) (by decide) X
  unfold wZeros wSlots idle
  rw [e2, e2, wSlot_set, wSlot_set]
  constructor
  · iintro ⟨⟨Hz0, Hz1⟩, ⟨Hs0, Hs1⟩, Hw⟩
    ihave Hw := (w_shares m c).1 $$ Hw
    icases Hw with ⟨Hw0, Hw1⟩
    isplitl [Hz0 Hs0 Hw0]
    · isplitl [Hz0]; · iexact Hz0
      isplitl [Hs0] <;> iassumption
    isplitl [Hz1]; · iexact Hz1
    isplitl [Hs1] <;> iassumption
  · iintro ⟨⟨Hz0, Hs0, Hw0⟩, Hz1, Hs1, Hw1⟩
    isplitl [Hz0 Hz1]
    · isplitl [Hz0] <;> iassumption
    isplitl [Hs0 Hs1]
    · isplitl [Hs0] <;> iassumption
    iapply (w_shares m c).2
    isplitl [Hw0] <;> iassumption

end Cert.KernelIdeal.A2A

end
-- ==== Proof.Run.lean ====
/-
# The run

The kernel's one call on every device, from any memory: it ends, the arguments as they were, the result at `outAt`,
every semaphore at zero.
-/
module

public import proofs.«01_k».proof.Proof.Deal
public import proofs.«01_k».proof.Proof.Gen.KernelIdeal.Points
public import Idealize.ShloMosaic.Lib.Pipeline.CollectiveSegs
public import Idealize.ShloMosaic.Lib.Pipeline.ValueKit.Geometry

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (g : Dev nD → PrngReg)

/-! ## The call's data -/

/-- The weights of device `c`, whole. -/
def weights (c : Dev nD) : sProp 𝕄 := (((c : Thread nD τ).loc main_arg1) ↦{fullShare} wAll m c)
/-- What the call is entered with. -/
def start (c : Dev nD) : sProp 𝕄 :=
  iprop((∃ K, common m K) ∗ payToks c ∗ positions c ∗ credits c ∗ wZeros c ∗ weights m c)
/-- What the body starts from, beside its buffers, -/
def Φ₀ (c : Dev nD) : sProp 𝕄 :=
  iprop((∃ K, common m K) ∗ payToks c ∗ positions c ∗ credits c ∗ anySlots c ∗ idle m c 0 ∗ idle m c 1)
/-- and what it leaves. -/
def Φ₁ (c : Dev nD) : sProp 𝕄 := iprop(zeros c ∗ anySlots c ∗ idle m c 0 ∗ idle m c 1)

/-- What the launch is told of each device: the arrays, what the staged buffers hold after the body, what is held and owed before and after. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => saAt m c
    | ⟨2, _⟩ => sbAt m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Owning a whole buffer is holding it at its contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A buffer of device `c` at given contents. -/
def at' (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
/-- That is to hold it at those contents. -/
theorem at_iff (c : Dev nD) (b : Ref sig .tc) (X : b.ty.Contents (Elt F)) : (at' c b X : sProp 𝕄) ⊣⊢ (((c : Thread nD τ).loc b) ↦{fullShare} X) := by
  unfold at'
  constructor
  · iintro ⟨%f, %h, H⟩; rw [← h]; iexact H
  · iintro H; iexists X; isplitr; · (ipureintro; rfl)
    iexact H

/-- Before the body the staged rows are there, -/
theorem before0 (c : Dev nD) (d) : (dats m 0 c).before 0 t0_0 d = xAt m c := by
  unfold Dat.before; rw [if_pos (fetch0_0 t0_0)]; rfl
/-- and the first scale, -/
theorem before1 (c : Dev nD) (d) : (dats m 0 c).before 1 t0_0 d = saAt m c := by
  unfold Dat.before; rw [if_pos (fetch0_1 t0_0)]; rfl
/-- and the second. -/
theorem before2 (c : Dev nD) (d) : (dats m 0 c).before 2 t0_0 d = sbAt m c := by
  unfold Dat.before; rw [if_pos (fetch0_2 t0_0)]; rfl

/-- What the loop hands the body at its one point, and takes back. -/
def pre (c : Dev nD) : sProp 𝕄 :=
  iprop(Φ₀ m c ∗ (dats m 0 c).owesAt () t0_0.castSucc
    ∗ (∃ d, at' c cc0_stg0_0 ((dats m 0 c).before 0 t0_0 d)) ∗ (∃ d, at' c cc0_stg1_0 ((dats m 0 c).before 1 t0_0 d))
    ∗ (∃ d, at' c cc0_stg2_0 ((dats m 0 c).before 2 t0_0 d)) ∗ (∃ d, at' c cc0_stg3_0 ((dats m 0 c).before 3 t0_0 d)))
/-- What it takes back. -/
def post (c : Dev nD) : sProp 𝕄 :=
  iprop(Φ₁ m c ∗ (dats m 0 c).owesAt () t0_0.succ
    ∗ at' c cc0_stg0_0 (xAt m c) ∗ at' c cc0_stg1_0 (saAt m c) ∗ at' c cc0_stg2_0 (sbAt m c) ∗ at' c cc0_stg3_0 (outAt m c))

/-- The debts the loop hands over are those of the launch, -/
theorem owes_in (c : Dev nD) : (dats m 0 c).owesAt () t0_0.castSucc ⊢ owe c (O₀ c) := by
  unfold Dat.owesAt owesWithin owe
  rw [show (dats m 0 c).owed t0_0.castSucc = O₀ c from rfl]
  iintro ⟨%W, -, H⟩; iexists W; iexact H
/-- and no debt is left to take back. -/
theorem owes_out (c : Dev nD) : owe c 0 ⊢ (dats m 0 c).owesAt () t0_0.succ := by
  unfold Dat.owesAt owesWithin owe
  rw [show (dats m 0 c).owed t0_0.succ = 0 from rfl]
  iintro ⟨%W, H⟩; iexists W
  isplitr; · ipureintro; exact fun _ _ => Or.inl trivial
  iexact H

/-- Before anything is stored the result may hold anything. -/
theorem oHold_any (c : Dev nD) (f : (cc0_stg3_0 : Ref sig .tc).ty.Contents (Elt F)) : (((c : Thread nD τ).loc cc0_stg3_0) ↦{fullShare} f : sProp 𝕄) ⊢ oHold m c (fun _ => False) := by
  unfold oHold
  iintro H
  iexists f
  isplitr; · ipureintro; exact fun _ h => h.elim
  iexact H

/-- The body from the one to the other. -/
theorem pre_wp (c : Dev nD) : pre m c ⊢ WP c (body1 (F := F)) fun _ => post m c := by
  unfold pre Φ₀
  iintro ⟨⟨⟨%K, #HR⟩, Hpay, Hpos, Hcr, Hsl, Hi0, Hi1⟩, Ho, ⟨%d0, Hx⟩, ⟨%d1, Ha⟩, ⟨%d2, Hb⟩, ⟨%d3, Hout⟩⟩
  rw [before0, before1, before2]
  ihave Hx := (at_iff c _ _).1 $$ Hx
  ihave Ha := (at_iff c _ _).1 $$ Ha
  ihave Hb := (at_iff c _ _).1 $$ Hb
  ihave Hout := (at_iff c _ _).1 $$ Hout
  ihave Ho := (owes_in m c) $$ Ho
  iapply (body_wp m K c _)
  isplitr; · iexact HR
  isplitl [Hx Ha Hb]
  · unfold staged
    isplitl [Hx]; · iexact Hx
    isplitl [Ha] <;> iassumption
  isplitl [Hpay Hpos Hcr Hsl Hi0 Hi1 Ho Hout]
  · unfold bodyIn
    isplitl [Ho]; · iexact Ho
    isplitl [Hpay]; · iexact Hpay
    isplitl [Hpos]; · iexact Hpos
    isplitl [Hcr]; · iexact Hcr
    isplitl [Hsl]; · iexact Hsl
    isplitl [Hi0]; · iexact Hi0
    isplitl [Hi1]; · iexact Hi1
    iapply (oHold_any m c _); iexact Hout
  unfold staged bodyOut post Φ₁
  iintro ⟨⟨Hx, Ha, Hb⟩, Ho, Hz, Hsl, Hi0, Hi1, Hout⟩
  isplitl [Hz Hsl Hi0 Hi1]
  · isplitl [Hz]; · iexact Hz
    isplitl [Hsl]; · iexact Hsl
    isplitl [Hi0] <;> iassumption
  isplitl [Ho]; · iapply (owes_out m c); iexact Ho
  isplitl [Hx]; · iapply (at_iff c _ _).2; iexact Hx
  isplitl [Ha]; · iapply (at_iff c _ _).2; iexact Ha
  isplitl [Hb]; · iapply (at_iff c _ _).2; iexact Hb
  iapply (at_iff c _ _).2; iexact Hout

set_option maxRecDepth 20000 in
/-- The obligation of the call's one point. -/
theorem body_obligation (c : Dev nD) : BodyObligation (dats m 0 c) (defs₀ (F := F)) 𝒱₀ () Set.univ := fun t => by
  rw [fin_N0 t]
  rw [bigSep_W0, bigSep_W0]
  simp only [owns_whole]
  show pre m c ⊢ WP c (bodyAt0 (F := F) t0_0) fun _ => post m c
  rw [body_eq]
  exact pre_wp m c

/-! ## Into the call and out of it -/

/-- Every array is held whole. -/
theorem share_full (c : Dev nD) (w : Fin cfg0.W) : (dats m 0 c).share w = fullShare := by unfold Dat.share; split <;> rfl

/-- From the launch's deal to the start of the call, -/
theorem start_intro (c : Dev nD) :
    iprop(unscopedRestP Prefetch.none cfg0.spec c (fun b => m ((c : Thread nD τ).loc b)) ∗ levAts L lv ∗ launchCred O₀ c ∗ prngReg c (g c) ∗ G' m c)
      ⊢ |={Set.univ}=> iprop(start m c ∗ emp) := by
  rw [unscopedRestP_none, unscopedRest0_eq]
  unfold G' start common weights
  iintro ⟨Hw, #Hlev, Hcr, -, ⟨%K, #HR⟩, Hpay, Hpos, Hz⟩
  ihave Hc := (creds (F := F) c) $$ Hcr
  imodintro
  isplitl
  · isplitr
    · iexists K
      isplitl; · iexact HR
      iexact Hlev
    isplitl [Hpay]; · iexact Hpay
    isplitl [Hpos]; · iexact Hpos
    isplitl [Hc]; · iexact Hc
    isplitl [Hz]; · iexact Hz
    iexact Hw
  iempintro

/-- into the call, with the scratch buffers, -/
theorem phi0_intro (c : Dev nD) :
    iprop(start m c ∗ prefHeld Prefetch.none c (fun _ => fullShare.right) (fun k => k.elim0) ∗ scopedRest cfg0.spec c) ⊢ (dats m 0 c).Φ 0 := by
  rw [show (dats m 0 c).Φ 0 = Φ₀ m c from rfl]
  unfold start Φ₀ weights
  iintro ⟨⟨HR, Hpay, Hpos, Hcr, Hz, Hw⟩, -, Hs⟩
  ihave Hs := (scratch_in c) $$ Hs
  icases Hs with ⟨Hws, Hsl⟩
  ihave Hi := (idle_both m c).1 $$ [Hz Hws Hw]
  · isplitl [Hz]; · iexact Hz
    isplitl [Hws] <;> iassumption
  isplitl [HR]; · iexact HR
  isplitl [Hpay]; · iexact Hpay
  isplitl [Hpos]; · iexact Hpos
  isplitl [Hcr]; · iexact Hcr
  isplitl [Hsl] <;> iassumption

/-- and out of it: every semaphore back at zero. -/
theorem phi1_exit (c : Dev nD) :
    (dats m 0 c).Φ (Fin.last cfg0.N) ⊢ iprop((unscopedSems0 c ∗ weights m c) ∗ ownSems0 osem c ∗ scopedRest cfg0.spec c) := by
  rw [show (dats m 0 c).Φ (Fin.last cfg0.N) = Φ₁ m c from rfl, ownSems0_eq, unscopedSems0_eq]
  unfold Φ₁ zeros weights
  iintro ⟨⟨Hzb, Hzs, Hzr⟩, Hsl, Hi⟩
  ihave Hi := (idle_both m c).2 $$ Hi
  icases Hi with ⟨Hz, Hws, Hw⟩
  isplitl [Hzb Hw]
  · isplitl [Hzb] <;> iassumption
  isplitl [Hz Hzs Hzr]
  · isplitl [Hz]; · iexact Hz
    isplitl [Hzs] <;> iassumption
  iapply (scratch_out m c)
  isplitl [Hws] <;> iassumption

/-- The staging's waits are below everything owed. -/
theorem waits (c : Dev nD) : (levAts L lv : sProp 𝕄) ⊢ cellsWaits cfgs (dats m) () 0 c :=
  cellsWaits_intro cfgs (dats m) () 0 c fun w s t => by
    rcases t with ⟨_ | _, ht⟩
    · exact mayWait_low c _ (by fin_cases w <;> fin_cases s <;> decide) 0 0
    · exact (show (levAts L lv : sProp 𝕄) ⊢ MayWait _ _ () 0 by rw [MayWait_zero]; iintro -; iempintro)

/-! ## The result array -/

/-- The result is written back once, whole. -/
theorem final_out (c : Dev nD) : (dats m 0 c).arrAt 3 cfg0.N = outAt m c :=
  (dats m 0 c).arrAt_eq_of_after_last 3 t0_0 (by decide +kernel) (outAt m c) fun j => rfl

/-! ## The run -/

/-- What a run leaves: every argument as it was, the result at `outAt`. -/
def Left (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v1) = outAt m c

set_option maxRecDepth 8000 in
/-- Every execution on the eight devices ends, with every device's result at `outAt`, its arguments unchanged and every
    semaphore at zero. -/
theorem run : θ_run defs (onTc (τ := τ) (main (F := F))) ⟨m, fun _ => 0, g⟩ (fun r => (∀ c : Dev nD, Left m c r.2) ∧ r.2.sem = fun _ => 0) :=
  θ_run_region_owing_glob_pf (fun p => (cfgs p).toPCfg) (fun p => (cfgs p).toPCfg_adm) (dats m) () cellOf_inj (0 : Fin 1)
    winFacts0.to₀ ownSemFacts (PreFacts.none _) EP defs₀ 𝒱₀ m g main
    (hmain := fun _ => rfl)
    (hbody := body_obligation m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := u₀_split $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ weights m c)) (Z := fun _ => iprop(emp))
    (hX := start_intro m g) (hin := phi0_intro m) (hout := phi1_exit m)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      have hw : iprop(weights m c ∗ SI s') ⊢ (iprop(⌜s'.mem.mem ((c : Thread nD τ).loc main_arg1) = m ((c : Thread nD τ).loc main_arg1)⌝ ∗ SI s') : sProp 𝕄) := by
        have h := pointsTo_read_all (Ix := Unit) (Name := ℕ) (U := UU) (Lvl := ℕ) ({()} : Finset Unit) (fun _ => (c : Thread nD τ).loc main_arg1) (fun _ => wAll m c) s'
        rw [bigSep_singleton] at h
        unfold weights
        refine h.trans ?_
        iintro ⟨%h, H⟩
        isplitr; · ipureintro; exact h () (Finset.mem_singleton_self _)
        iexact H
      iintro ⟨⟨Hu, Hw⟩, -, HSI⟩
      ihave H := hw $$ [Hw HSI]
      · isplitl [Hw] <;> iassumption
      icases H with ⟨%e, HSI⟩
      imod (unscopedSems0_read (X := unscopedSems0 c) (c := c) fupd_intro s') $$ [Hu HSI] with H
      · isplitl [Hu] <;> iassumption
      icases H with ⟨%z, HSI⟩
      imodintro
      isplitr; · ipureintro; exact ⟨e, z⟩
      iexact HSI)
    (hQ := fun s h hs => ⟨fun c =>
      ⟨((h c).1 0).trans ((dats m 0 c).arrAt_in 0 rfl _), (h c).2.2.1, ((h c).1 1).trans ((dats m 0 c).arrAt_in 1 rfl _),
        ((h c).1 2).trans ((dats m 0 c).arrAt_in 2 rfl _), ((h c).1 3).trans (final_out m c)⟩,
      sem_eq_zero hs fun c => (h c).2.2.2⟩)

end Cert.KernelIdeal.A2A

end
-- ==== Proof.Silu.lean ====
/-
# The gate on one value, over the reals

The reference divides `y` by `1 + exp (-clip y)`; the kernel multiplies `y` by the reciprocal of it. The two are one
function: whatever `y` is, the exponential is not negative, so the divisor is never zero and the division is the
product with the inverse.
-/
module

public import Idealize.ShloMosaic.Lib.MatmulPlain
public import Idealize.ShloMosaic.Lib.IdealHost

@[expose] public section

noncomputable section

namespace Cert.Silu

open Idealize.ShloMosaic
open Idealize.ShloMosaic.ValueIdx (ix2)

/-- `y` held between minus sixty and sixty. -/
def clip (y : EReal) : EReal := min (Ideal.ofBits .f32 0x42700000#32) (max (Ideal.ofBits .f32 0xC2700000#32) y)
/-- What `y` is divided by. -/
def den (y : EReal) : EReal := 1 + Ideal.exp (-clip y)
/-- The gate: `y / (1 + exp (-clip y))`. -/
def silu (y : EReal) : EReal := Ideal.div y (den y)

/-- An exponential is not negative. -/
theorem exp_nonneg (t : EReal) : 0 ≤ Ideal.exp t := by
  induction t with
  | bot => exact le_rfl
  | top => exact le_top
  | coe r => exact EReal.coe_nonneg.2 (Real.exp_pos r).le

/-- The divisor is not zero. -/
theorem den_ne (y : EReal) : den y ≠ 0 :=
  (lt_of_lt_of_le zero_lt_one (le_add_of_nonneg_right (exp_nonneg _))).ne'

/-- Multiplying by the reciprocal of the divisor is dividing by it. -/
theorem mul_recip (y : EReal) : y * Ideal.div 1 (den y) = silu y := by
  unfold silu Ideal.div
  rw [if_neg (den_ne y), if_neg (den_ne y), one_mul]

/-- One entry of the gated, scaled product of `x` and `w`: row `r`, column `q`, with the scale `s`. -/
def entry {M K N : ℕ} (s : EReal) (x : (⟨2, ![M, K]⟩ : Shape).Idx → EReal) (w : (⟨2, ![K, N]⟩ : Shape).Idx → EReal)
    (r : Fin M) (q : Fin N) : EReal := silu ((∑ k : Fin K, x (ix2 r k) * w (ix2 k q)) * s)

end Cert.Silu

end
-- ==== Proof.Value.lean ====
/-
# The value, over the reals

At the ideal numbers every format change of the kernel is the identity and its matrix product is the plain sum, so a
half block, whether kept or sent, holds at row `r`, column `q` the gated product of row `r` of the device's rows with a
column of the weights. Put together: the result of device `c` holds at row `i`, column `k` the entry of the reference
at row `i`, column `1024 c + k`, since row `i` lies in the rows of device `i / 512`, wherever the block was computed.
-/
module

public import proofs.«01_k».proof.Proof.Run
public import proofs.«01_k».proof.Proof.Silu
public import proofs.«01_k».proof.Proof.Gen.ReferenceIdeal.Run
public import Idealize.ShloMosaic.Lib.Layout
public import Idealize.ShloMosaic.Lib.StackMember
public import Idealize.ShloMosaic.Lib.Pipeline.Value

@[expose] public section

noncomputable section

namespace Cert.KernelIdeal.A2A

open Cert.KernelIdeal Cert.KernelIdeal.Gen Cert.Silu
open Idealize.ShloMosaic
open Idealize.ShloMosaic.TcCoe
open Idealize.ShloMosaic.ValueIdx (ix2 ix3)
open Idealize.SL Idealize.SL.Sem

/-! ## A half block at an index -/

/-- A loaded weight tile as a matrix. -/
def cols (w : Vec Ideal S1x4096x512 .f32) : S4096x512.Idx → EReal := fun y => w (ix3 0 (y 0) (y 1))

/-- A kept half block, from the scale, the rows and the loaded weights. -/
theorem kept_apply (s : Ideal .f32) (x : FVec Ideal S512x4096 .fp8e4m3) (w : Vec Ideal S1x4096x512 .f32) (r q : Fin 512) :
    k0_pay30 s x w (ix2 r q) = entry s x (cols w) r q := by
  have hw : ∀ y : S4096x512.Idx, shapeCast S4096x512 w shapeCasts_S1x4096x512_S4096x512 y = cols w y := fun y => by
    rw [shapeCast_dropUnit_apply]; exact congrArg w (ext3 rfl rfl rfl)
  have hd : (matmul dot_S512x4096_S4096x512_S512x512_1_0_0_1_n_n none x
        (truncf .fp8e4m3 (shapeCast S4096x512 w shapeCasts_S1x4096x512_S4096x512) bitsLt_fp8e4m3_f32)
        (constant S512x512 .f32 0x00000000#32) : FVec Ideal S512x512 .f32) (ix2 r q)
      = ∑ k : Fin 4096, x (ix2 r k) * cols w (ix2 k q) := by
    refine (Ideal.matmul_plain_apply none _ _ _ r q).trans ?_
    refine (congrArg (· + _) Ideal.ofBits_zero_f32).trans ((zero_add _).trans ?_)
    exact Finset.sum_congr rfl fun k _ => congrArg (x (ix2 r k) * ·) (hw (ix2 k q))
  refine Eq.trans ?_ (mul_recip _)
  rw [den, ← zero_sub, ← Ideal.ofBits_one_f32, ← Ideal.ofBits_zero_f32, ← hd]
  rfl

/-- A sent half block holds the same entries as a kept one. -/
theorem sent_apply (s : Ideal .f32) (x : FVec Ideal S512x4096 .fp8e4m3) (w : Vec Ideal S1x4096x512 .f32) (r q : Fin 512) :
    k0_pay8 s x w (ix3 0 r q) = entry s x (cols w) r q := by
  refine Eq.trans ?_ (kept_apply s x w r q)
  show shapeCast S1x512x512 (k0_pay30 s x w) shapeCasts_S512x512_S1x512x512 (ix3 0 r q) = _
  refine (shapeCast_addUnit_apply ![512, 512] (k0_pay30 s x w) shapeCasts_S512x512_S1x512x512 (ix3 0 r q)).trans ?_
  exact congrArg (k0_pay30 s x w) (ext2 rfl rfl)

/-! ## What a half block is computed from -/

variable (m : (ℓ : Loc nD τ sig) → Buf (Elt Ideal) ℓ)

/-- A one-element array has one index. -/
theorem one_idx (x y : S1.Idx) : x = y := funext fun | ⟨0, _⟩ => Subsingleton.elim (α := Fin 1) _ _

/-- The cast rows are the device's rows. -/
theorem rows_apply (c : Dev nD) (y : S512x4096.Idx) : rows m c y = m ((c : Thread nD τ).loc main_arg0) y := by
  refine (congrFun (shapeCast_self (xAt m c) shapeCasts_S512x4096_S512x4096) y).trans ?_
  exact congrArg (m ((c : Thread nD τ).loc main_arg0)) (ext2 (by show 0 + 1 * (y 0).val = (y 0).val; omega) (by show 0 + 1 * (y 1).val = (y 1).val; omega))

/-- The scale is the product of the two scales. -/
theorem scal_eq (c : Dev nD) (sa sb : S1.Idx → EReal) (ha : m ((c : Thread nD τ).loc main_arg2) = sa)
    (hb : m ((c : Thread nD τ).loc main_arg3) = sb) (i : S1.Idx) : scal m c = sa i * sb i := by
  subst ha hb
  exact congrArg₂ (fun a b : EReal => a * b) (congrArg (m ((c : Thread nD τ).loc main_arg2)) (one_idx _ i))
    (congrArg (m ((c : Thread nD τ).loc main_arg3)) (one_idx _ i))

/-- Where a weight tile starts. -/
theorem tile_start : ∀ (c : Dev nD) (d : Fin 8) (h : Fin 2),
    k0_off1 c (BitVec.ofNat 32 d.val) (BitVec.ofNat 32 (512 * h.val)) 0 = 0
      ∧ k0_off1 c (BitVec.ofNat 32 d.val) (BitVec.ofNat 32 (512 * h.val)) 1 = (c.val + d.val) % 8 * 1024 + 512 * h.val := by
  decide +kernel

/-- A weight tile at an index: the columns of the device it is for. -/
theorem wTile_apply (c : Dev nD) (d : Fin 8) (k : Fin 1024) (a : Fin 4096) :
    wTile m c d (half k) (ix3 0 a (inHalf k)) = m ((c : Thread nD τ).loc main_arg1)
      (ix2 a ⟨(peer c d).val * 1024 + k.val, by have := (peer c d).isLt; have : (peer c d).val < 8 := this; omega⟩) := by
  have hs := tile_start c d (half k)
  refine congrArg (m ((c : Thread nD τ).loc main_arg1)) (ext2 ?_ ?_)
  · refine (congrArg (· + 1 * a.val) hs.1).trans ?_
    show 0 + 1 * a.val = a.val; omega
  · refine (congrArg (· + 1 * (k.val % 512)) hs.2).trans ?_
    show (c.val + d.val) % 8 * 1024 + 512 * (k.val / 512) + 1 * (k.val % 512) = (peer c d).val * 1024 + k.val
    rw [peer_val]; omega

/-! ## The result of a device -/

/-- The entry of the result of device `c` at row `r` of the rows of device `s`, column `k`: what device `s` computes. -/
def cell (s c : Dev nD) (r : Fin 512) (k : Fin 1024) : EReal :=
  entry (scal m s) (m ((s : Thread nD τ).loc main_arg0)) (m ((s : Thread nD τ).loc main_arg1)) r
    (⟨c.val * 1024 + k.val, by have : c.val < 8 := c.isLt; omega⟩ : Fin 8192)

/-- What a device computes for the one `d` places on is that device's cell. -/
theorem entry_tile (s c : Dev nD) (d : Fin 8) (hd : peer s d = c) (r : Fin 512) (k : Fin 1024) :
    entry (scal m s) (rows m s) (cols (wTile m s d (half k))) r (inHalf k) = cell m s c r k := by
  subst hd
  refine congrArg silu (congrArg (· * scal m s) (Finset.sum_congr rfl fun a _ => ?_))
  exact congrArg₂ (fun u v : EReal => u * v) (rows_apply m s (ix2 r a)) (wTile_apply m s d k a)

/-- A device's own block is its own cell. -/
theorem own_apply (c : Dev nD) (r : Fin 512) (k : Fin 1024) : ownHalf m c (half k) (ix2 r (inHalf k)) = cell m c c r k := by
  refine (kept_apply (scal m c) (rows m c) (wTile m c 0 (half k)) r (inHalf k)).trans (entry_tile m c c 0 (Fin.ext ?_) r k)
  rw [peer_val]; have : c.val < 8 := c.isLt; show (c.val + 0) % 8 = _; omega

/-- The block received in slot `j` is the cell of the device that sends there. -/
theorem got_apply (c : Dev nD) (j : Fin 7) (r : Fin 512) (k : Fin 1024) : gotBlock m c j (ix2 r k) = cell m (source c j) c r k := by
  have e := shapeCast_dropUnit_apply ![512, 1024] (fun x : S1x512x1024.Idx => sentAt m (source c j) (ix3 j (x 1) (x 2)))
    shapeCasts_S1x512x1024_S512x1024 (ix2 r k)
  refine Eq.trans e ?_
  exact (sent_apply (scal m (source c j)) (rows m (source c j)) (wTile m (source c j) j.succ (half k)) r (inHalf k)).trans
    (entry_tile m (source c j) c j.succ (peer_source c j) r k)

/-- The result of device `c` at row `i`, column `k` is the cell of the device whose rows hold row `i`. -/
theorem outAt_apply (c s : Dev nD) (i : S4096x1024.Idx) (hs : (i 0).val / 512 = s.val) :
    outAt m c i = cell m s c ⟨(i 0).val % 512, Nat.mod_lt _ (by decide)⟩ (i 1) := by
  have hc : c.val < 8 := c.isLt
  have hs8 : s.val < 8 := s.isLt
  unfold outAt
  by_cases h : (i 0).val / 512 = c.val
  · obtain rfl : s = c := Fin.ext (hs.symm.trans h)
    rw [dif_pos h]
    exact own_apply m s _ (i 1)
  · rw [dif_neg h]
    refine (got_apply m c _ _ (i 1)).trans (congrArg (fun d => cell m d c _ (i 1)) (Fin.ext ?_))
    rw [source_val]
    show (c.val + 7 - (c.val + 7 - (i 0).val / 512) % 8) % 8 = s.val
    omega

end Cert.KernelIdeal.A2A

namespace Cert.ReferenceIdeal.Value

open Cert.ReferenceIdeal Cert.ReferenceIdeal.Gen Cert.Silu
open Idealize.ShloMosaic
open Idealize.ShloMosaic.TcCoe
open Idealize.ShloMosaic.ValueIdx (ix1 ix2 eq_ix2)
open Idealize.SL Idealize.SL.Sem

/-- The reference's result on the four arguments, entry by entry. -/
def result (x : S4096x4096.Idx → EReal) (w : S4096x8192.Idx → EReal) (sa sb : S1.Idx → EReal) (i : S4096x8192.Idx) : EReal :=
  entry (sa (ix1 (0 : Fin 1)) * sb (ix1 (0 : Fin 1))) x w (i 0) (i 1)

/-- The scaled product, as the reference computes it. -/
abbrev scaled (x : FVec Ideal S4096x4096 .f32) (w : FVec Ideal S4096x8192 .f32) (sa sb : FVec Ideal S1 .f32) : FVec Ideal S4096x8192 .f32 :=
  mulf (Host.dotGeneral dot_S4096x4096_S4096x8192_S4096x8192_1_0_0_1_n_n none x w)
    (broadcastInDim S4096x8192 ![0, 1] bcast_S1x1_S4096x8192_0_1 (broadcastInDim S1x1 ![1] bcast_S1_S1x1_1 (mulf sa sb)))

/-- The scaled product at an index. -/
theorem scaled_apply (x : FVec Ideal S4096x4096 .f32) (w : FVec Ideal S4096x8192 .f32) (sa sb : FVec Ideal S1 .f32)
    (a : Fin 4096) (b : Fin 8192) :
    scaled x w sa sb (ix2 a b) = (∑ k : Fin 4096, x (ix2 a k) * w (ix2 k b)) * (sa (ix1 (0 : Fin 1)) * sb (ix1 (0 : Fin 1))) := by
  refine congrArg₂ (fun u v : EReal => u * v) (StackMember.dotGeneral_plain_apply none x w a b) ?_
  exact (broadcastInDim_apply _ _ _ _ (ix2 (0 : Fin 1) (0 : Fin 1)) fun | ⟨0, _⟩ => rfl | ⟨1, _⟩ => rfl).trans
    (broadcastInDim_apply _ _ _ _ (ix1 (0 : Fin 1)) fun | ⟨0, _⟩ => rfl)

/-- The reference's operations, composed, make the result. -/
theorem composed (x : FVec Ideal S4096x4096 .f32) (w : FVec Ideal S4096x8192 .f32) (sa sb : FVec Ideal S1 .f32) :
    Host.divf (scaled x w sa sb) (addf (broadcastInDim S4096x8192 ![] bcast_S_S4096x8192 (constant S_ .f32 0x3F800000#32))
      (Host.exp (Host.negf (minimumf (broadcastInDim S4096x8192 ![] bcast_S_S4096x8192 (id (constant S_ .f32 0x42700000#32)))
        (maximumf (broadcastInDim S4096x8192 ![] bcast_S_S4096x8192 (id (constant S_ .f32 0xC2700000#32))) (scaled x w sa sb))))))
      = result x w sa sb := by
  funext i
  obtain ⟨a, b, rfl⟩ : ∃ (a : Fin 4096) (b : Fin 8192), i = ix2 a b := ⟨i 0, i 1, eq_ix2 i⟩
  refine Eq.trans ?_ (congrArg silu (scaled_apply x w sa sb a b))
  rw [silu, den, ← Ideal.ofBits_one_f32]
  rfl

/-- Every run of the reference ends with its result array at the result of its arguments, and those unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v10) = result (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (composed _ _ _ _), (h c).2⟩) (run m ρ)

end Cert.ReferenceIdeal.Value

namespace Cert.KernelIdeal.A2A

open Cert.KernelIdeal Cert.KernelIdeal.Gen Cert.Silu
open Idealize.ShloMosaic
open Idealize.ShloMosaic.TcCoe
open Idealize.ShloMosaic.ValueIdx (ix1 ix2)

/-- When device `c` starts with the `c`-th block of rows of `x` and every device with all of `w` and both scales, its
result is the `c`-th block of columns of the reference's result. -/
theorem outAt_block (m : (ℓ : Loc nD τ sig) → Buf (Elt Ideal) ℓ) (x : (⟨2, ![4096, 4096]⟩ : Shape).Idx → EReal)
    (w : (⟨2, ![4096, 8192]⟩ : Shape).Idx → EReal) (sa sb : S1.Idx → EReal)
    (hx : ∀ c : Dev nD, m ((c : Thread nD τ).loc main_arg0) = Layout.block ⟨2, ![512, 4096]⟩ ⟨2, ![4096, 4096]⟩ 0 8 c x)
    (hw : ∀ c : Dev nD, m ((c : Thread nD τ).loc main_arg1) = w) (ha : ∀ c : Dev nD, m ((c : Thread nD τ).loc main_arg2) = sa)
    (hb : ∀ c : Dev nD, m ((c : Thread nD τ).loc main_arg3) = sb) (c : Dev nD) :
    outAt m c = Layout.block ⟨2, ![4096, 1024]⟩ ⟨2, ![4096, 8192]⟩ 1 8 c (Cert.ReferenceIdeal.Value.result x w sa sb) := by
  funext i
  have hi : (i 0).val < 4096 := (i 0).isLt
  refine (outAt_apply m c ⟨(i 0).val / 512, by show _ < 8; omega⟩ i rfl).trans ?_
  unfold cell
  rw [scal_eq m _ sa sb (ha _) (hb _) (ix1 (0 : Fin 1)), hx, hw]
  refine congrArg silu (congrArg (· * (sa (ix1 (0 : Fin 1)) * sb (ix1 (0 : Fin 1)))) (Finset.sum_congr rfl fun k _ => ?_))
  refine congrArg₂ (fun u v : EReal => u * v) (congrArg x (ext2 ?_ ?_)) (congrArg w (ext2 ?_ ?_))
  · show (i 0).val / 512 * 512 + (i 0).val % 512 = (i 0).val; omega
  · rfl
  · rfl
  · rfl

end Cert.KernelIdeal.A2A

end
-- ==== Proof.lean ====
/-
# The claims

The kernel as printed and the idealized kernel run and leave their arguments and semaphores as they were; so does the
reference; and over the extended reals every device's result is its part of the reference's.
-/
module

public import proofs.«01_k».proof.Defs
public import proofs.«01_k».proof.Proof.Bits.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts

/-- The kernel at the machine's words: every run ends, its arguments unchanged and every semaphore at zero. -/
theorem kernel_quiescent : Cert.quiescent_Kernel := fun m g _ =>
  (θ_run _ _ _).mono (fun _ h => ⟨fun c => ⟨(h.1 c).1, (h.1 c).2.1, (h.1 c).2.2.1, (h.1 c).2.2.2.1⟩, h.2⟩) (Cert.Kernel.A2A.run m g)

/-- The idealized kernel: the same. -/
theorem ideal_quiescent : Cert.quiescent_KernelIdeal := fun m g _ =>
  (θ_run _ _ _).mono (fun _ h => ⟨fun c => ⟨(h.1 c).1, (h.1 c).2.1, (h.1 c).2.2.1, (h.1 c).2.2.2.1⟩, h.2⟩)
    (Cert.KernelIdeal.A2A.run m g)

/-- The reference: the same; it has no semaphores. -/
theorem reference_quiescent : Cert.quiescent_ReferenceIdeal := fun m g _ =>
  (θ_run _ _ _).mono (fun r h => ⟨fun c => (h c).2, sem_eq_zero_of_no_sems rfl r.2⟩) (Cert.ReferenceIdeal.Value.run_result m g)

/-- Every device ends with its block of columns of the reference's result. -/
theorem same_function : Cert.algebraic_KernelIdeal_ReferenceIdeal := fun m g m' g' _ hm =>
  ⟨_, (θ_run _ _ _).mono (fun _ h c => ⟨(h.1 c).2.2.2.2.trans
        (Cert.KernelIdeal.A2A.outAt_block m _ _ _ _ (fun c => (hm c).1) (fun c => (hm c).2.1) (fun c => (hm c).2.2.1) (fun c => (hm c).2.2.2) c),
      (h.1 c).1, (h.1 c).2.1, (h.1 c).2.2.1, (h.1 c).2.2.2.1⟩) (Cert.KernelIdeal.A2A.run m g),
    (θ_run _ _ _).mono (fun _ h => h 0) (Cert.ReferenceIdeal.Value.run_result m' g')⟩

/-- All five claims. -/
theorem claim : Cert.Claim :=
  ⟨Cert.Kernel.Gen.facts, Cert.KernelIdeal.Gen.facts, Cert.ReferenceIdeal.Gen.facts,
    kernel_quiescent, ideal_quiescent, reference_quiescent, trivial, same_function⟩

end Cert.Proof

end
